-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 128]⟩ ⟨2, ![2048, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x2048 : Shape := ⟨2, ![128, 2048]⟩
abbrev S2048x128 : Shape := ⟨2, ![2048, 128]⟩
abbrev S3x128x2048 : Shape := ⟨3, ![3, 128, 2048]⟩
abbrev S4x128x2048 : Shape := ⟨3, ![4, 128, 2048]⟩
abbrev S4x64x2048 : Shape := ⟨3, ![4, 64, 2048]⟩
abbrev S6 : Shape := ⟨1, ![6]⟩
abbrev S3 : Shape := ⟨1, ![3]⟩
abbrev S4x2 : Shape := ⟨2, ![4, 2]⟩
abbrev S4 : Shape := ⟨1, ![4]⟩
abbrev S_ : Shape := ⟨0, ![]⟩
abbrev S1 : Shape := ⟨1, ![1]⟩
abbrev S1x128x2048 : Shape := ⟨3, ![1, 128, 2048]⟩
abbrev S1x1 : Shape := ⟨2, ![1, 1]⟩
abbrev S1x64x2048 : Shape := ⟨3, ![1, 64, 2048]⟩
abbrev S64x2048 : Shape := ⟨2, ![64, 2048]⟩
abbrev S128x128 : Shape := ⟨2, ![128, 128]⟩
abbrev S64x128 : Shape := ⟨2, ![64, 128]⟩

abbrev nBuf : Space → Nat
  | .hbm => 3
  | .vmem => 8
  | .smem => 0
  | _ => 0

abbrev bufTy : (tb : Table) → Fin (tcTables nBuf tb) → BufTy
  | .hbm, ⟨0, _⟩ => ⟨S128x2048, .bf16⟩
  | .hbm, ⟨1, _⟩ => ⟨S2048x128, .bf16⟩
  | .hbm, ⟨2, _⟩ => ⟨S2048x128, .f32⟩
  | .local _ .vmem, ⟨0, _⟩ => ⟨S128x2048, .bf16⟩
  | .local _ .vmem, ⟨1, _⟩ => ⟨S2048x128, .bf16⟩
  | .local _ .vmem, ⟨2, _⟩ => ⟨S2048x128, .f32⟩
  | .local _ .vmem, ⟨3, _⟩ => ⟨S3x128x2048, .bf16⟩
  | .local _ .vmem, ⟨4, _⟩ => ⟨S4x128x2048, .bf16⟩
  | .local _ .vmem, ⟨5, _⟩ => ⟨S4x128x2048, .bf16⟩
  | .local _ .vmem, ⟨6, _⟩ => ⟨S4x64x2048, .bf16⟩
  | .local _ .vmem, ⟨7, _⟩ => ⟨S4x64x2048, .bf16⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  (ofTc nBuf bufTy 1 60 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_16 : BitVec 32 := 1#32
  let v40 : BitVec 32 := Scalar.muli v24 c1_i32_16
  let v41 : BitVec 32 := Scalar.addi c0_i32_17 v40
  v41.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_19 : BitVec 32 := 1#32
  let v42 : BitVec 32 := Scalar.muli v27 c1_i32_19
  let v43 : BitVec 32 := Scalar.addi c0_i32_20 v42
  v43.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v34 : BitVec 32 := Scalar.addi v2 c4_i32_11
  let c16_i32_12 : BitVec 32 := 16#32
  let v35 : BitVec 32 := Scalar.remsi v34 c16_i32_12
  let c1_i32_22 : BitVec 32 := 1#32
  let v44 : BitVec 32 := Scalar.muli v35 c1_i32_22
  let v45 : BitVec 32 := Scalar.addi c0_i32_23 v44
  v45.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v36 : BitVec 32 := Scalar.addi v2 c8_i32
  let c16_i32_13 : BitVec 32 := 16#32
  let v37 : BitVec 32 := Scalar.remsi v36 c16_i32_13
  let c1_i32_25 : BitVec 32 := 1#32
  let v46 : BitVec 32 := Scalar.muli v37 c1_i32_25
  let v47 : BitVec 32 := Scalar.addi c0_i32_26 v46
  v47.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v38 : BitVec 32 := Scalar.addi v2 c12_i32
  let c16_i32_14 : BitVec 32 := 16#32
  let v39 : BitVec 32 := Scalar.remsi v38 c16_i32_14
  let c1_i32_28 : BitVec 32 := 1#32
  let v48 : BitVec 32 := Scalar.muli v39 c1_i32_28
  let v49 : BitVec 32 := Scalar.addi c0_i32_29 v48
  v49.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_30 : BitVec 32 := 1#32
  let v50 : BitVec 32 := Scalar.addi v20 c1_i32_30
  let c3_i32_31 : BitVec 32 := 3#32
  let v51 : BitVec 1 := Scalar.cmpi .sle v50 c3_i32_31
  let v52 : BitVec 32 := Scalar.extui v51
  let c0_i32_32 : BitVec 32 := 0#32
  let v53 : BitVec 1 := Scalar.cmpi .ne v52 c0_i32_32
  v53

def k0_dev6 (d0 : Dev nD) : Nat :=
  let c0_i32_896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_891 : BitVec 32 := 4#32
  let v761 : BitVec 32 := Scalar.addi v2 c4_i32_891
  let c1_i32_895 : BitVec 32 := 1#32
  let v762 : BitVec 32 := Scalar.muli v761 c1_i32_895
  let v763 : BitVec 32 := Scalar.addi c0_i32_896 v762
  v763.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_33 : BitVec 32 := 1#32
  let v54 : BitVec 32 := Scalar.subi v20 c1_i32_33
  let c0_i32_34 : BitVec 32 := 0#32
  let v55 : BitVec 1 := Scalar.cmpi .sge v54 c0_i32_34
  let v56 : BitVec 32 := Scalar.extui v55
  let c0_i32_35 : BitVec 32 := 0#32
  let v57 : BitVec 1 := Scalar.cmpi .ne v56 c0_i32_35
  v57

def k0_dev7 (d0 : Dev nD) : Nat :=
  let c0_i32_896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_891 : BitVec 32 := 4#32
  let v761 : BitVec 32 := Scalar.subi v2 c4_i32_891
  let c1_i32_895 : BitVec 32 := 1#32
  let v762 : BitVec 32 := Scalar.muli v761 c1_i32_895
  let v763 : BitVec 32 := Scalar.addi c0_i32_896 v762
  v763.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_36 : BitVec 32 := 2#32
  let v58 : BitVec 32 := Scalar.addi v20 c2_i32_36
  let c3_i32_37 : BitVec 32 := 3#32
  let v59 : BitVec 1 := Scalar.cmpi .sle v58 c3_i32_37
  let v60 : BitVec 32 := Scalar.extui v59
  let c0_i32_38 : BitVec 32 := 0#32
  let v61 : BitVec 1 := Scalar.cmpi .ne v60 c0_i32_38
  v61

def k0_dev8 (d0 : Dev nD) : Nat :=
  let c0_i32_896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_891 : BitVec 32 := 8#32
  let v761 : BitVec 32 := Scalar.addi v2 c8_i32_891
  let c1_i32_895 : BitVec 32 := 1#32
  let v762 : BitVec 32 := Scalar.muli v761 c1_i32_895
  let v763 : BitVec 32 := Scalar.addi c0_i32_896 v762
  v763.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_39 : BitVec 32 := 2#32
  let v62 : BitVec 32 := Scalar.subi v20 c2_i32_39
  let c0_i32_40 : BitVec 32 := 0#32
  let v63 : BitVec 1 := Scalar.cmpi .sge v62 c0_i32_40
  let v64 : BitVec 32 := Scalar.extui v63
  let c0_i32_41 : BitVec 32 := 0#32
  let v65 : BitVec 1 := Scalar.cmpi .ne v64 c0_i32_41
  v65

def k0_dev9 (d0 : Dev nD) : Nat :=
  let c0_i32_896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_891 : BitVec 32 := 8#32
  let v761 : BitVec 32 := Scalar.subi v2 c8_i32_891
  let c1_i32_895 : BitVec 32 := 1#32
  let v762 : BitVec 32 := Scalar.muli v761 c1_i32_895
  let v763 : BitVec 32 := Scalar.addi c0_i32_896 v762
  v763.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_42 : BitVec 32 := 3#32
  let v66 : BitVec 32 := Scalar.addi v20 c3_i32_42
  let c3_i32_43 : BitVec 32 := 3#32
  let v67 : BitVec 1 := Scalar.cmpi .sle v66 c3_i32_43
  let v68 : BitVec 32 := Scalar.extui v67
  let c0_i32_44 : BitVec 32 := 0#32
  let v69 : BitVec 1 := Scalar.cmpi .ne v68 c0_i32_44
  v69

def k0_dev10 (d0 : Dev nD) : Nat :=
  let c0_i32_896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_891 : BitVec 32 := 12#32
  let v761 : BitVec 32 := Scalar.addi v2 c12_i32_891
  let c1_i32_895 : BitVec 32 := 1#32
  let v762 : BitVec 32 := Scalar.muli v761 c1_i32_895
  let v763 : BitVec 32 := Scalar.addi c0_i32_896 v762
  v763.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_45 : BitVec 32 := 3#32
  let v70 : BitVec 32 := Scalar.subi v20 c3_i32_45
  let c0_i32_46 : BitVec 32 := 0#32
  let v71 : BitVec 1 := Scalar.cmpi .sge v70 c0_i32_46
  let v72 : BitVec 32 := Scalar.extui v71
  let c0_i32_47 : BitVec 32 := 0#32
  let v73 : BitVec 1 := Scalar.cmpi .ne v72 c0_i32_47
  v73

def k0_dev11 (d0 : Dev nD) : Nat :=
  let c0_i32_896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_891 : BitVec 32 := 12#32
  let v761 : BitVec 32 := Scalar.subi v2 c12_i32_891
  let c1_i32_895 : BitVec 32 := 1#32
  let v762 : BitVec 32 := Scalar.muli v761 c1_i32_895
  let v763 : BitVec 32 := Scalar.addi c0_i32_896 v762
  v763.toNat
def k0_dev12 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_53 : BitVec 32 := 1#32
  let v74 : BitVec 32 := Scalar.muli v24 c1_i32_53
  let v75 : BitVec 32 := Scalar.addi c0_i32_54 v74
  v75.toNat
def k0_dev13 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_64 : BitVec 32 := 1#32
  let v83 : BitVec 32 := Scalar.muli v24 c1_i32_64
  let v84 : BitVec 32 := Scalar.addi c0_i32_65 v83
  v84.toNat
def k0_dev14 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_74 : BitVec 32 := 1#32
  let v92 : BitVec 32 := Scalar.muli v27 c1_i32_74
  let v93 : BitVec 32 := Scalar.addi c0_i32_75 v92
  v93.toNat
def k0_dev15 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_85 : BitVec 32 := 1#32
  let v101 : BitVec 32 := Scalar.muli v27 c1_i32_85
  let v102 : BitVec 32 := Scalar.addi c0_i32_86 v101
  v102.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v115 : BitVec 32 := Scalar.muli v2 c128_i32
  let v116 : Index := Scalar.indexCast v115
  let c0_94 : Index := 0#32
  ![v116.toNat, 0]
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_95 : BitVec 32 := 1#32
  let v118 : BitVec 32 := Scalar.subi v20 c1_i32_95
  let c0_i32_96 : BitVec 32 := 0#32
  let v119 : BitVec 1 := Scalar.cmpi .sge v118 c0_i32_96
  let v123 : BitVec 32 := Scalar.extui v119
  let c0_i32_100 : BitVec 32 := 0#32
  let v124 : BitVec 1 := Scalar.cmpi .ne v123 c0_i32_100
  v124

def k0_dev16 (d0 : Dev nD) : Nat :=
  let c0_i32_905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_904 : BitVec 32 := 1#32
  let v767 : BitVec 32 := Scalar.muli v24 c1_i32_904
  let v768 : BitVec 32 := Scalar.addi c0_i32_905 v767
  v768.toNat
def k0_dev17 (d0 : Dev nD) : Nat :=
  let c0_i32_917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_916 : BitVec 32 := 1#32
  let v777 : BitVec 32 := Scalar.muli v24 c1_i32_916
  let v778 : BitVec 32 := Scalar.addi c0_i32_917 v777
  v778.toNat
def k0_dev18 (d0 : Dev nD) : Nat :=
  let c0_i32_929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_928 : BitVec 32 := 1#32
  let v787 : BitVec 32 := Scalar.muli v27 c1_i32_928
  let v788 : BitVec 32 := Scalar.addi c0_i32_929 v787
  v788.toNat
def k0_dev19 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_940 : BitVec 32 := 1#32
  let v797 : BitVec 32 := Scalar.muli v27 c1_i32_940
  let v798 : BitVec 32 := Scalar.addi c0_i32_941 v797
  v798.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_97 : BitVec 32 := 16#32
  let v120 : BitVec 32 := Scalar.addi v2 c16_i32_97
  let c4_i32_98 : BitVec 32 := 4#32
  let v121 : BitVec 32 := Scalar.subi v120 c4_i32_98
  let c16_i32_99 : BitVec 32 := 16#32
  let v122 : BitVec 32 := Scalar.remsi v121 c16_i32_99
  let c128_i32_951 : BitVec 32 := 128#32
  let v812 : BitVec 32 := Scalar.muli v122 c128_i32_951
  let v813 : Index := Scalar.indexCast v812
  let c0_952 : Index := 0#32
  ![v813.toNat, 0]
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_101 : BitVec 32 := 1#32
  let v125 : BitVec 32 := Scalar.addi v20 c1_i32_101
  let c3_i32_102 : BitVec 32 := 3#32
  let v126 : BitVec 1 := Scalar.cmpi .sle v125 c3_i32_102
  let v129 : BitVec 32 := Scalar.extui v126
  let c0_i32_105 : BitVec 32 := 0#32
  let v130 : BitVec 1 := Scalar.cmpi .ne v129 c0_i32_105
  v130

def k0_dev20 (d0 : Dev nD) : Nat :=
  let c0_i32_905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_904 : BitVec 32 := 1#32
  let v767 : BitVec 32 := Scalar.muli v24 c1_i32_904
  let v768 : BitVec 32 := Scalar.addi c0_i32_905 v767
  v768.toNat
def k0_dev21 (d0 : Dev nD) : Nat :=
  let c0_i32_917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_916 : BitVec 32 := 1#32
  let v777 : BitVec 32 := Scalar.muli v24 c1_i32_916
  let v778 : BitVec 32 := Scalar.addi c0_i32_917 v777
  v778.toNat
def k0_dev22 (d0 : Dev nD) : Nat :=
  let c0_i32_929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_928 : BitVec 32 := 1#32
  let v787 : BitVec 32 := Scalar.muli v27 c1_i32_928
  let v788 : BitVec 32 := Scalar.addi c0_i32_929 v787
  v788.toNat
def k0_dev23 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_940 : BitVec 32 := 1#32
  let v797 : BitVec 32 := Scalar.muli v27 c1_i32_940
  let v798 : BitVec 32 := Scalar.addi c0_i32_941 v797
  v798.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_103 : BitVec 32 := 4#32
  let v127 : BitVec 32 := Scalar.addi v2 c4_i32_103
  let c16_i32_104 : BitVec 32 := 16#32
  let v128 : BitVec 32 := Scalar.remsi v127 c16_i32_104
  let c128_i32_951 : BitVec 32 := 128#32
  let v812 : BitVec 32 := Scalar.muli v128 c128_i32_951
  let v813 : Index := Scalar.indexCast v812
  let c0_952 : Index := 0#32
  ![v813.toNat, 0]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_106 : BitVec 32 := 2#32
  let v131 : BitVec 32 := Scalar.subi v20 c2_i32_106
  let c0_i32_107 : BitVec 32 := 0#32
  let v132 : BitVec 1 := Scalar.cmpi .sge v131 c0_i32_107
  let v136 : BitVec 32 := Scalar.extui v132
  let c0_i32_111 : BitVec 32 := 0#32
  let v137 : BitVec 1 := Scalar.cmpi .ne v136 c0_i32_111
  v137

def k0_dev24 (d0 : Dev nD) : Nat :=
  let c0_i32_905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_904 : BitVec 32 := 1#32
  let v767 : BitVec 32 := Scalar.muli v24 c1_i32_904
  let v768 : BitVec 32 := Scalar.addi c0_i32_905 v767
  v768.toNat
def k0_dev25 (d0 : Dev nD) : Nat :=
  let c0_i32_917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_916 : BitVec 32 := 1#32
  let v777 : BitVec 32 := Scalar.muli v24 c1_i32_916
  let v778 : BitVec 32 := Scalar.addi c0_i32_917 v777
  v778.toNat
def k0_dev26 (d0 : Dev nD) : Nat :=
  let c0_i32_929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_928 : BitVec 32 := 1#32
  let v787 : BitVec 32 := Scalar.muli v27 c1_i32_928
  let v788 : BitVec 32 := Scalar.addi c0_i32_929 v787
  v788.toNat
def k0_dev27 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_940 : BitVec 32 := 1#32
  let v797 : BitVec 32 := Scalar.muli v27 c1_i32_940
  let v798 : BitVec 32 := Scalar.addi c0_i32_941 v797
  v798.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_108 : BitVec 32 := 16#32
  let v133 : BitVec 32 := Scalar.addi v2 c16_i32_108
  let c8_i32_109 : BitVec 32 := 8#32
  let v134 : BitVec 32 := Scalar.subi v133 c8_i32_109
  let c16_i32_110 : BitVec 32 := 16#32
  let v135 : BitVec 32 := Scalar.remsi v134 c16_i32_110
  let c128_i32_951 : BitVec 32 := 128#32
  let v812 : BitVec 32 := Scalar.muli v135 c128_i32_951
  let v813 : Index := Scalar.indexCast v812
  let c0_952 : Index := 0#32
  ![v813.toNat, 0]
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_112 : BitVec 32 := 2#32
  let v138 : BitVec 32 := Scalar.addi v20 c2_i32_112
  let c3_i32_113 : BitVec 32 := 3#32
  let v139 : BitVec 1 := Scalar.cmpi .sle v138 c3_i32_113
  let v142 : BitVec 32 := Scalar.extui v139
  let c0_i32_116 : BitVec 32 := 0#32
  let v143 : BitVec 1 := Scalar.cmpi .ne v142 c0_i32_116
  v143

def k0_dev28 (d0 : Dev nD) : Nat :=
  let c0_i32_905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_904 : BitVec 32 := 1#32
  let v767 : BitVec 32 := Scalar.muli v24 c1_i32_904
  let v768 : BitVec 32 := Scalar.addi c0_i32_905 v767
  v768.toNat
def k0_dev29 (d0 : Dev nD) : Nat :=
  let c0_i32_917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_916 : BitVec 32 := 1#32
  let v777 : BitVec 32 := Scalar.muli v24 c1_i32_916
  let v778 : BitVec 32 := Scalar.addi c0_i32_917 v777
  v778.toNat
def k0_dev30 (d0 : Dev nD) : Nat :=
  let c0_i32_929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_928 : BitVec 32 := 1#32
  let v787 : BitVec 32 := Scalar.muli v27 c1_i32_928
  let v788 : BitVec 32 := Scalar.addi c0_i32_929 v787
  v788.toNat
def k0_dev31 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_940 : BitVec 32 := 1#32
  let v797 : BitVec 32 := Scalar.muli v27 c1_i32_940
  let v798 : BitVec 32 := Scalar.addi c0_i32_941 v797
  v798.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_114 : BitVec 32 := 8#32
  let v140 : BitVec 32 := Scalar.addi v2 c8_i32_114
  let c16_i32_115 : BitVec 32 := 16#32
  let v141 : BitVec 32 := Scalar.remsi v140 c16_i32_115
  let c128_i32_951 : BitVec 32 := 128#32
  let v812 : BitVec 32 := Scalar.muli v141 c128_i32_951
  let v813 : Index := Scalar.indexCast v812
  let c0_952 : Index := 0#32
  ![v813.toNat, 0]
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_117 : BitVec 32 := 3#32
  let v144 : BitVec 32 := Scalar.subi v20 c3_i32_117
  let c0_i32_118 : BitVec 32 := 0#32
  let v145 : BitVec 1 := Scalar.cmpi .sge v144 c0_i32_118
  let v149 : BitVec 32 := Scalar.extui v145
  let c0_i32_122 : BitVec 32 := 0#32
  let v150 : BitVec 1 := Scalar.cmpi .ne v149 c0_i32_122
  v150

def k0_dev32 (d0 : Dev nD) : Nat :=
  let c0_i32_905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_904 : BitVec 32 := 1#32
  let v767 : BitVec 32 := Scalar.muli v24 c1_i32_904
  let v768 : BitVec 32 := Scalar.addi c0_i32_905 v767
  v768.toNat
def k0_dev33 (d0 : Dev nD) : Nat :=
  let c0_i32_917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_916 : BitVec 32 := 1#32
  let v777 : BitVec 32 := Scalar.muli v24 c1_i32_916
  let v778 : BitVec 32 := Scalar.addi c0_i32_917 v777
  v778.toNat
def k0_dev34 (d0 : Dev nD) : Nat :=
  let c0_i32_929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_928 : BitVec 32 := 1#32
  let v787 : BitVec 32 := Scalar.muli v27 c1_i32_928
  let v788 : BitVec 32 := Scalar.addi c0_i32_929 v787
  v788.toNat
def k0_dev35 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_940 : BitVec 32 := 1#32
  let v797 : BitVec 32 := Scalar.muli v27 c1_i32_940
  let v798 : BitVec 32 := Scalar.addi c0_i32_941 v797
  v798.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_119 : BitVec 32 := 16#32
  let v146 : BitVec 32 := Scalar.addi v2 c16_i32_119
  let c12_i32_120 : BitVec 32 := 12#32
  let v147 : BitVec 32 := Scalar.subi v146 c12_i32_120
  let c16_i32_121 : BitVec 32 := 16#32
  let v148 : BitVec 32 := Scalar.remsi v147 c16_i32_121
  let c128_i32_951 : BitVec 32 := 128#32
  let v812 : BitVec 32 := Scalar.muli v148 c128_i32_951
  let v813 : Index := Scalar.indexCast v812
  let c0_952 : Index := 0#32
  ![v813.toNat, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_123 : BitVec 32 := 3#32
  let v151 : BitVec 32 := Scalar.addi v20 c3_i32_123
  let c3_i32_124 : BitVec 32 := 3#32
  let v152 : BitVec 1 := Scalar.cmpi .sle v151 c3_i32_124
  let v155 : BitVec 32 := Scalar.extui v152
  let c0_i32_127 : BitVec 32 := 0#32
  let v156 : BitVec 1 := Scalar.cmpi .ne v155 c0_i32_127
  v156

def k0_dev36 (d0 : Dev nD) : Nat :=
  let c0_i32_905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_904 : BitVec 32 := 1#32
  let v767 : BitVec 32 := Scalar.muli v24 c1_i32_904
  let v768 : BitVec 32 := Scalar.addi c0_i32_905 v767
  v768.toNat
def k0_dev37 (d0 : Dev nD) : Nat :=
  let c0_i32_917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_916 : BitVec 32 := 1#32
  let v777 : BitVec 32 := Scalar.muli v24 c1_i32_916
  let v778 : BitVec 32 := Scalar.addi c0_i32_917 v777
  v778.toNat
def k0_dev38 (d0 : Dev nD) : Nat :=
  let c0_i32_929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_928 : BitVec 32 := 1#32
  let v787 : BitVec 32 := Scalar.muli v27 c1_i32_928
  let v788 : BitVec 32 := Scalar.addi c0_i32_929 v787
  v788.toNat
def k0_dev39 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_940 : BitVec 32 := 1#32
  let v797 : BitVec 32 := Scalar.muli v27 c1_i32_940
  let v798 : BitVec 32 := Scalar.addi c0_i32_941 v797
  v798.toNat
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_125 : BitVec 32 := 12#32
  let v153 : BitVec 32 := Scalar.addi v2 c12_i32_125
  let c16_i32_126 : BitVec 32 := 16#32
  let v154 : BitVec 32 := Scalar.remsi v153 c16_i32_126
  let c128_i32_951 : BitVec 32 := 128#32
  let v812 : BitVec 32 := Scalar.muli v154 c128_i32_951
  let v813 : Index := Scalar.indexCast v812
  let c0_952 : Index := 0#32
  ![v813.toNat, 0]
def k0_dev40 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_143 : BitVec 32 := 1#32
  let v164 : BitVec 32 := Scalar.muli v24 c1_i32_143
  let v165 : BitVec 32 := Scalar.addi c0_i32_144 v164
  v165.toNat
def k0_off8 (d0 : Dev nD) (c3_i32 : BitVec 32) (c0_i32_164 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let v25 : BitVec 32 := Scalar.addi v3 c3_i32
  let c4_i32_8 : BitVec 32 := 4#32
  let v26 : BitVec 32 := Scalar.remsi v25 c4_i32_8
  let v27 : BitVec 32 := Scalar.addi v21 v26
  let c16_i32_163 : BitVec 32 := 16#32
  let v183 : BitVec 32 := Scalar.addi v27 c16_i32_163
  let v184 : BitVec 32 := Scalar.subi v183 c0_i32_164
  let c16_i32_165 : BitVec 32 := 16#32
  let v185 : BitVec 32 := Scalar.remsi v184 c16_i32_165
  let c128_i32_168 : BitVec 32 := 128#32
  let v189 : BitVec 32 := Scalar.muli v185 c128_i32_168
  let v190 : Index := Scalar.indexCast v189
  let c0_169 : Index := 0#32
  ![v190.toNat, 0]
def k0_dev41 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_185 : BitVec 32 := 1#32
  let v199 : BitVec 32 := Scalar.muli v27 c1_i32_185
  let v200 : BitVec 32 := Scalar.addi c0_i32_186 v199
  v200.toNat
def k0_dev42 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_228 : BitVec 32 := 1#32
  let v235 : BitVec 32 := Scalar.muli v24 c1_i32_228
  let v236 : BitVec 32 := Scalar.addi c0_i32_229 v235
  v236.toNat
def k0_dev43 (d0 : Dev nD) : Nat :=
  let c0_i32_272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_271 : BitVec 32 := 1#32
  let v272 : BitVec 32 := Scalar.muli v27 c1_i32_271
  let v273 : BitVec 32 := Scalar.addi c0_i32_272 v272
  v273.toNat
def k0_dev44 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_315 : BitVec 32 := 1#32
  let v309 : BitVec 32 := Scalar.muli v24 c1_i32_315
  let v310 : BitVec 32 := Scalar.addi c0_i32_316 v309
  v310.toNat
def k0_dev45 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_358 : BitVec 32 := 1#32
  let v346 : BitVec 32 := Scalar.muli v27 c1_i32_358
  let v347 : BitVec 32 := Scalar.addi c0_i32_359 v346
  v347.toNat
def k0_dev46 (d0 : Dev nD) : Nat :=
  let c0_i32_403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_402 : BitVec 32 := 1#32
  let v383 : BitVec 32 := Scalar.muli v24 c1_i32_402
  let v384 : BitVec 32 := Scalar.addi c0_i32_403 v383
  v384.toNat
def k0_dev47 (d0 : Dev nD) : Nat :=
  let c0_i32_446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_445 : BitVec 32 := 1#32
  let v420 : BitVec 32 := Scalar.muli v27 c1_i32_445
  let v421 : BitVec 32 := Scalar.addi c0_i32_446 v420
  v421.toNat
def k0_off9 (d0 : Dev nD) (c0_i32_474 : BitVec 32) (c0_i32_492 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c2_i32 : BitVec 32 := 2#32
  let v28 : BitVec 32 := Scalar.addi v3 c2_i32
  let c4_i32_9 : BitVec 32 := 4#32
  let v29 : BitVec 32 := Scalar.remsi v28 c4_i32_9
  let v30 : BitVec 32 := Scalar.addi v21 v29
  let c16_i32_473 : BitVec 32 := 16#32
  let v449 : BitVec 32 := Scalar.addi v30 c16_i32_473
  let v450 : BitVec 32 := Scalar.subi v449 c0_i32_474
  let c16_i32_475 : BitVec 32 := 16#32
  let v451 : BitVec 32 := Scalar.remsi v450 c16_i32_475
  let c128_i32_491 : BitVec 32 := 128#32
  let v465 : BitVec 32 := Scalar.muli v451 c128_i32_491
  let v466 : BitVec 32 := Scalar.addi v465 c0_i32_492
  let v467 : Index := Scalar.indexCast v466
  let c0_493 : Index := 0#32
  ![v467.toNat, 0]
abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Acts.lean ====
/-
# The kernel as a list of acts

A device's program is a straight line of six kinds of act: it signals a neighbour's barrier, waits on
its own, starts a copy to another device, waits for a copy to land here, waits for a copy of its own to
have been read, and multiplies one block by its weights into the result. This module names the slots
and semaphores each act touches and says what program each act is. Which acts a device runs depends
only on its row of the mesh.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Run

open Cert.KernelIdeal Cert.KernelIdeal.Gen
open Idealize.ShloMosaic Idealize.ShloMosaic.TcCoe
open Idealize.SL Idealize.SL.RA Idealize.SL.BI
open Idealize.SL.Sem

variable {F : FTy → Type} [FloatOps F]

/-- A copy a device starts: a column copy of its whole block, or a half block along the row
    (forwards or backwards), or a half block passed on (forwards or backwards). -/
inductive Sd where
  | col (i : Fin 6)
  | af (i : Fin 4) (h : Fin 2)
  | ab (i : Fin 4) (h : Fin 2)
  | bf (i : Fin 4)
  | bb (i : Fin 4)
  deriving DecidableEq

/-- A place copies land in: one per slot, or half slot. -/
inductive Rc where
  | col (k : Fin 3)
  | af (i : Fin 4) (h : Fin 2)
  | ab (i : Fin 4) (h : Fin 2)
  | bf (i : Fin 4)
  | bb (i : Fin 4)
  deriving DecidableEq

/-- A source of a block product: the device's own block, one of its slots. The column slots carry which
    of the six conditional blocks of the text this is. -/
inductive Src where
  | x
  | col (j : Fin 6)
  | pf (i : Fin 4)
  | pb (i : Fin 4)
  | hf (i : Fin 4)
  | hb (i : Fin 4)
  deriving DecidableEq

/-- The column slot a column copy lands in. -/
def kOf (i : Fin 6) : Fin 3 := ![0, 1, 2, 2, 1, 0] i

/-- The column slot each of the six conditional blocks reads. -/
def kPut (j : Fin 6) : Fin 3 := ![0, 2, 1, 1, 2, 0] j

/-- Where a copy lands. -/
def Sd.rc : Sd → Rc
  | .col i => .col (kOf i)
  | .af i h => .af i h
  | .ab i h => .ab i h
  | .bf i => .bf i
  | .bb i => .bb i

/-! ## Semaphores -/

/-- The semaphore that counts a copy's source as read. -/
def semS : Sd → DmaSem sig
  | .col i => ⟨3 + i.val, by show 3 + i.val < 60; omega⟩
  | .af i h => ⟨12 + (2 * i.val + h.val), by show _ < 60; omega⟩
  | .ab i h => ⟨28 + (2 * i.val + h.val), by show _ < 60; omega⟩
  | .bf i => ⟨44 + i.val, by show _ < 60; omega⟩
  | .bb i => ⟨52 + i.val, by show _ < 60; omega⟩

/-- The semaphore that counts what has landed. -/
def semR : Rc → DmaSem sig
  | .col k => ⟨9 + k.val, by show _ < 60; omega⟩
  | .af i h => ⟨20 + (2 * i.val + h.val), by show _ < 60; omega⟩
  | .ab i h => ⟨36 + (2 * i.val + h.val), by show _ < 60; omega⟩
  | .bf i => ⟨48 + i.val, by show _ < 60; omega⟩
  | .bb i => ⟨56 + i.val, by show _ < 60; omega⟩

/-- The barrier semaphore. -/
abbrev barS : Sem sig := (SemArray.scalar (sig.barrier 0 rfl) : Sems sig S_).sem

/-! ## Slots -/

abbrev xM : Memref sig .tc .vmem S128x2048 .bf16 := Memref.whole cc0_stg0_0
abbrev wM : Memref sig .tc .vmem S2048x128 .bf16 := Memref.whole cc0_stg1_0
abbrev oM : Memref sig .tc .vmem S2048x128 .f32 := Memref.whole cc0_stg2_0
abbrev cM : Memref sig .tc .vmem S3x128x2048 .bf16 := Memref.whole cc0_scratch0
abbrev pfM : Memref sig .tc .vmem S4x128x2048 .bf16 := Memref.whole cc0_scratch1
abbrev pbM : Memref sig .tc .vmem S4x128x2048 .bf16 := Memref.whole cc0_scratch2
abbrev hfM : Memref sig .tc .vmem S4x64x2048 .bf16 := Memref.whole cc0_scratch3
abbrev hbM : Memref sig .tc .vmem S4x64x2048 .bf16 := Memref.whole cc0_scratch4

theorem inbX (h : Fin 2) : ∀ a, (![64 * h.val, 0] : Fin 2 → ℕ) a + S64x2048.size a ≤ S128x2048.size a := by
  revert h; decide

theorem inbC (k : Fin 3) : ∀ a, (![k.val, 0, 0] : Fin 3 → ℕ) a + S1x128x2048.size a ≤ S3x128x2048.size a := by
  revert k; decide

theorem inbCh (k : Fin 3) (h : Fin 2) :
    ∀ a, (![k.val, 64 * h.val, 0] : Fin 3 → ℕ) a + S1x64x2048.size a ≤ S3x128x2048.size a := by
  revert k h; decide

theorem inbP (i : Fin 4) : ∀ a, (![i.val, 0, 0] : Fin 3 → ℕ) a + S1x128x2048.size a ≤ S4x128x2048.size a := by
  revert i; decide

theorem inbPh (i : Fin 4) (h : Fin 2) :
    ∀ a, (![i.val, 64 * h.val, 0] : Fin 3 → ℕ) a + S1x64x2048.size a ≤ S4x128x2048.size a := by
  revert i h; decide

theorem inbH (i : Fin 4) : ∀ a, (![i.val, 0, 0] : Fin 3 → ℕ) a + S1x64x2048.size a ≤ S4x64x2048.size a := by
  revert i; decide

/-- A half of the device's own block. -/
abbrev xH (h : Fin 2) : Memref sig .tc .vmem S64x2048 .bf16 :=
  xM.slice (Rect.unit (s := S128x2048) ![64 * h.val, 0] S64x2048.size (inbX h)) (fun _ => rfl)

/-- A column slot. -/
abbrev colM (k : Fin 3) : Memref sig .tc .vmem S128x2048 .bf16 :=
  (cM.slice (Rect.unit (s := S3x128x2048) ![k.val, 0, 0] S1x128x2048.size (inbC k)) (fun _ => rfl)).squeeze
    S128x2048 squeezes_S1x128x2048_S128x2048

/-- A half of a column slot. -/
abbrev colH (k : Fin 3) (h : Fin 2) : Memref sig .tc .vmem S64x2048 .bf16 :=
  (cM.slice (Rect.unit (s := S3x128x2048) ![k.val, 64 * h.val, 0] S1x64x2048.size (inbCh k h)) (fun _ => rfl)).squeeze
    S64x2048 squeezes_S1x64x2048_S64x2048

/-- A half of a slot filled from behind on the row. -/
abbrev pfH (i : Fin 4) (h : Fin 2) : Memref sig .tc .vmem S64x2048 .bf16 :=
  (pfM.slice (Rect.unit (s := S4x128x2048) ![i.val, 64 * h.val, 0] S1x64x2048.size (inbPh i h)) (fun _ => rfl)).squeeze
    S64x2048 squeezes_S1x64x2048_S64x2048

/-- A half of a slot filled from ahead on the row. -/
abbrev pbH (i : Fin 4) (h : Fin 2) : Memref sig .tc .vmem S64x2048 .bf16 :=
  (pbM.slice (Rect.unit (s := S4x128x2048) ![i.val, 64 * h.val, 0] S1x64x2048.size (inbPh i h)) (fun _ => rfl)).squeeze
    S64x2048 squeezes_S1x64x2048_S64x2048

/-- A half slot passed on from behind. -/
abbrev hfS (i : Fin 4) : Memref sig .tc .vmem S64x2048 .bf16 :=
  (hfM.slice (Rect.unit (s := S4x64x2048) ![i.val, 0, 0] S1x64x2048.size (inbH i)) (fun _ => rfl)).squeeze
    S64x2048 squeezes_S1x64x2048_S64x2048

/-- A half slot passed on from ahead. -/
abbrev hbS (i : Fin 4) : Memref sig .tc .vmem S64x2048 .bf16 :=
  (hbM.slice (Rect.unit (s := S4x64x2048) ![i.val, 0, 0] S1x64x2048.size (inbH i)) (fun _ => rfl)).squeeze
    S64x2048 squeezes_S1x64x2048_S64x2048

/-- What a row copy of index `i` reads: the device's own block at `0`, then the column slots. -/
def aSrc : Fin 4 → Fin 2 → Memref sig .tc .vmem S64x2048 .bf16
  | 0, h => xH h
  | 1, h => colH 0 h
  | 2, h => colH 1 h
  | 3, h => colH 2 h

theorem wwX (h : Fin 2) :
    (Rect.unit (s := S128x2048) ![64 * h.val, 0] S64x2048.size (inbX h)).WholeWords (EltTy.packing .bf16) := by
  revert h; decide

theorem wwC (k : Fin 3) :
    (Rect.unit (s := S3x128x2048) ![k.val, 0, 0] S1x128x2048.size (inbC k)).WholeWords (EltTy.packing .bf16) := by
  revert k; decide

theorem wwCh (k : Fin 3) (h : Fin 2) :
    (Rect.unit (s := S3x128x2048) ![k.val, 64 * h.val, 0] S1x64x2048.size (inbCh k h)).WholeWords
      (EltTy.packing .bf16) := by
  revert k h; decide

theorem wwPh (i : Fin 4) (h : Fin 2) :
    (Rect.unit (s := S4x128x2048) ![i.val, 64 * h.val, 0] S1x64x2048.size (inbPh i h)).WholeWords
      (EltTy.packing .bf16) := by
  revert i h; decide

theorem wwH (i : Fin 4) :
    (Rect.unit (s := S4x64x2048) ![i.val, 0, 0] S1x64x2048.size (inbH i)).WholeWords (EltTy.packing .bf16) := by
  revert i; decide

theorem weX (h : Fin 2) : (xH h).view.WordExact := (Memref.isWhole_whole cc0_stg0_0).wordExact_slice rfl _ (wwX h)
theorem weC (k : Fin 3) : (colM k).view.WordExact :=
  ((Memref.isWhole_whole cc0_scratch0).wordExact_slice rfl _ (wwC k)).reshape _ _
theorem weCh (k : Fin 3) (h : Fin 2) : (colH k h).view.WordExact :=
  ((Memref.isWhole_whole cc0_scratch0).wordExact_slice rfl _ (wwCh k h)).reshape _ _
theorem wePf (i : Fin 4) (h : Fin 2) : (pfH i h).view.WordExact :=
  ((Memref.isWhole_whole cc0_scratch1).wordExact_slice rfl _ (wwPh i h)).reshape _ _
theorem wePb (i : Fin 4) (h : Fin 2) : (pbH i h).view.WordExact :=
  ((Memref.isWhole_whole cc0_scratch2).wordExact_slice rfl _ (wwPh i h)).reshape _ _
theorem weHf (i : Fin 4) : (hfS i).view.WordExact :=
  ((Memref.isWhole_whole cc0_scratch3).wordExact_slice rfl _ (wwH i)).reshape _ _
theorem weHb (i : Fin 4) : (hbS i).view.WordExact :=
  ((Memref.isWhole_whole cc0_scratch4).wordExact_slice rfl _ (wwH i)).reshape _ _

theorem weA (i : Fin 4) (h : Fin 2) : (aSrc i h).view.WordExact := by
  match i with
  | 0 => exact weX h
  | 1 => exact weCh 0 h
  | 2 => exact weCh 1 h
  | 3 => exact weCh 2 h

theorem weXw : (xM).view.WordExact := (Memref.isWhole_whole cc0_stg0_0).wordExact

/-- The shape a copy moves. -/
def Rc.shp : Rc → Shape
  | .col _ => S128x2048
  | .af _ _ | .ab _ _ | .bf _ | .bb _ => S64x2048

/-- The slot copies counted at a place land in. -/
def dstM : (r : Rc) → Memref sig .tc .vmem r.shp .bf16
  | .col k => colM k
  | .af i h => pfH i h
  | .ab i h => pbH i h
  | .bf i => hfS i
  | .bb i => hbS i

/-- What a copy reads. -/
def srcM : (s : Sd) → Memref sig .tc .vmem s.rc.shp .bf16
  | .col _ => xM
  | .af i h => aSrc i h
  | .ab i h => aSrc i h
  | .bf i => pfH i 0
  | .bb i => pbH i 1

theorem weDst (r : Rc) : (dstM r).view.WordExact := by
  cases r with
  | col k => exact weC k
  | af i h => exact wePf i h
  | ab i h => exact wePb i h
  | bf i => exact weHf i
  | bb i => exact weHb i

theorem weSrc (s : Sd) : (srcM s).view.WordExact := by
  cases s with
  | col k => exact weXw
  | af i h => exact weA i h
  | ab i h => exact weA i h
  | bf i => exact wePf i 0
  | bb i => exact wePb i 1

/-- The copy whose landing a wait names: any copy that lands there. -/
def Rc.sd : Rc → Sd
  | .col k => .col ⟨k.val, by omega⟩
  | .af i h => .af i h
  | .ab i h => .ab i h
  | .bf i => .bf i
  | .bb i => .bb i

/-! ## Acts -/

/-- One step of a device. A signal and a copy carry the device they address. -/
inductive Act where
  | sig (j : Fin 5) (n : Dev nD)
  | barw
  | send (s : Sd) (n : Dev nD)
  | waitR (r : Rc)
  | waitS (s : Sd)
  | put (q : Src)

abbrev KP (α : Type) := Prog (TpuEff nD τ sig (Elt F) Λ₀ .tc) α

/-- Where each product's rows start in the result. -/
def offP (c : Dev nD) : Src → Fin 2 → ℕ
  | .x => k0_off1 c
  | .col 0 => k0_off2 c
  | .col 1 => k0_off3 c
  | .col 2 => k0_off4 c
  | .col 3 => k0_off5 c
  | .col 4 => k0_off6 c
  | .col 5 => k0_off7 c
  | .pf i => k0_off8 c 3#32 (BitVec.ofNat 32 (4 * i.val))
  | .pb i => k0_off8 c 1#32 (BitVec.ofNat 32 (4 * i.val))
  | .hf i => k0_off9 c (BitVec.ofNat 32 (4 * i.val)) 0#32
  | .hb i => k0_off9 c (BitVec.ofNat 32 (4 * i.val)) 64#32

/-- The extent of each product. -/
def Src.ext : Src → Fin 2 → ℕ
  | .x | .col _ | .pf _ | .pb _ => S128x128.size
  | .hf _ | .hb _ => S64x128.size

theorem inbO (c : Dev nD) (q : Src) : ∀ a, offP c q a + q.ext a ≤ S2048x128.size a := by
  cases q with
  | x => exact k0_off1_inb c
  | col j =>
    match j with
    | 0 => show ∀ a, k0_off2 c a + _ ≤ _; rw [k0_off2_eq]; revert c; decide
    | 1 => show ∀ a, k0_off3 c a + _ ≤ _; rw [k0_off3_eq]; revert c; decide
    | 2 => show ∀ a, k0_off4 c a + _ ≤ _; rw [k0_off4_eq]; revert c; decide
    | 3 => show ∀ a, k0_off5 c a + _ ≤ _; rw [k0_off5_eq]; revert c; decide
    | 4 => show ∀ a, k0_off6 c a + _ ≤ _; rw [k0_off6_eq]; revert c; decide
    | 5 => show ∀ a, k0_off7 c a + _ ≤ _; rw [k0_off7_eq]; revert c; decide
  | pf i => exact k0_off8_inb c 1 i
  | pb i => exact k0_off8_inb c 0 i
  | hf i => exact k0_off9_inb c i 0
  | hb i => exact k0_off9_inb c i 1

/-- The rows of the result a product fills. -/
abbrev outR (c : Dev nD) (q : Src) : Rect S2048x128 := Rect.unit (s := S2048x128) (offP c q) q.ext (inbO c q)

/-- A product stored: the rows are read (and the value dropped), then written. -/
def outP128 (off : Fin 2 → ℕ) (inb : ∀ a, off a + S128x128.size a ≤ S2048x128.size a) (v : FVec F S128x128 .f32) :
    KP (F := F) PUnit :=
  .op (.load oM (Rect.unit (s := S2048x128) off S128x128.size inb).toLoadRect (View.loadsAt_vmem h_S128x128))
    fun _ => .op (.store oM (Rect.unit (s := S2048x128) off S128x128.size inb) v Finset.univ
      (View.stores_vmem_bits_univ h_S128x128 rfl) (.inl rfl)) .ret

@[inherit_doc outP128]
def outP64 (off : Fin 2 → ℕ) (inb : ∀ a, off a + S64x128.size a ≤ S2048x128.size a) (v : FVec F S64x128 .f32) :
    KP (F := F) PUnit :=
  .op (.load oM (Rect.unit (s := S2048x128) off S64x128.size inb).toLoadRect (View.loadsAt_vmem h_S64x128))
    fun _ => .op (.store oM (Rect.unit (s := S2048x128) off S64x128.size inb) v Finset.univ
      (View.stores_vmem_bits_univ h_S64x128 rfl) (.inl rfl)) .ret

/-- A block product: read the block, multiply, store. -/
def putP (c : Dev nD) (w : FVec F S2048x128 .bf16) : Src → KP (F := F) PUnit
  | .x => .op (.load xM (Rect.unit (s := S128x2048) ![0, 0] S128x2048.size inb_S128x2048_S128x2048_0_0).toLoadRect
        (View.loadsAt_vmem h_S128x2048)) fun v => outP128 (offP c .x) (inbO c .x) (k0_pay8 w v)
  | .col j => .op (.load cM (Rect.unit (s := S3x128x2048) ![(kPut j).val, 0, 0] S1x128x2048.size (inbC (kPut j))).toLoadRect
        (View.loadsAt_vmem h_S1x128x2048)) fun v => outP128 (offP c (.col j)) (inbO c (.col j)) (k0_pay1 w v)
  | .pf i => .op (.load pfM (Rect.unit (s := S4x128x2048) ![i.val, 0, 0] S1x128x2048.size (inbP i)).toLoadRect
        (View.loadsAt_vmem h_S1x128x2048)) fun v => outP128 (offP c (.pf i)) (inbO c (.pf i)) (k0_pay1 w v)
  | .pb i => .op (.load pbM (Rect.unit (s := S4x128x2048) ![i.val, 0, 0] S1x128x2048.size (inbP i)).toLoadRect
        (View.loadsAt_vmem h_S1x128x2048)) fun v => outP128 (offP c (.pb i)) (inbO c (.pb i)) (k0_pay1 w v)
  | .hf i => .op (.load hfM (Rect.unit (s := S4x64x2048) ![i.val, 0, 0] S1x64x2048.size (inbH i)).toLoadRect
        (View.loadsAt_vmem h_S1x64x2048)) fun v => outP64 (offP c (.hf i)) (inbO c (.hf i)) (k0_pay18 w v)
  | .hb i => .op (.load hbM (Rect.unit (s := S4x64x2048) ![i.val, 0, 0] S1x64x2048.size (inbH i)).toLoadRect
        (View.loadsAt_vmem h_S1x64x2048)) fun v => outP64 (offP c (.hb i)) (inbO c (.hb i)) (k0_pay18 w v)

/-- The copy a device starts. -/
def sendP (n : Dev nD) : Sd → KP (F := F) PUnit
  | .col i => .op (.enqueueDma xM (.remote (Dev.tc n) (colM (kOf i)) (.dma (semS (.col i)))) (.dma (semR (.col (kOf i))))
      weXw (weC (kOf i)) ⟨⟨rfl, Or.inl rfl⟩, trivial⟩) .ret
  | .af i h => .op (.enqueueDma (aSrc i h) (.remote (Dev.tc n) (pfH i h) (.dma (semS (.af i h)))) (.dma (semR (.af i h)))
      (weA i h) (wePf i h) ⟨⟨rfl, Or.inl rfl⟩, trivial⟩) .ret
  | .ab i h => .op (.enqueueDma (aSrc i h) (.remote (Dev.tc n) (pbH i h) (.dma (semS (.ab i h)))) (.dma (semR (.ab i h)))
      (weA i h) (wePb i h) ⟨⟨rfl, Or.inl rfl⟩, trivial⟩) .ret
  | .bf i => .op (.enqueueDma (pfH i 0) (.remote (Dev.tc n) (hfS i) (.dma (semS (.bf i)))) (.dma (semR (.bf i)))
      (wePf i 0) (weHf i) ⟨⟨rfl, Or.inl rfl⟩, trivial⟩) .ret
  | .bb i => .op (.enqueueDma (pbH i 1) (.remote (Dev.tc n) (hbS i) (.dma (semS (.bb i)))) (.dma (semR (.bb i)))
      (wePb i 1) (weHb i) ⟨⟨rfl, Or.inl rfl⟩, trivial⟩) .ret

/-- Wait for a copy to land here. -/
def waitRP : Rc → KP (F := F) PUnit
  | .col k => .op (.waitDma2 (semR (.col k)) xM (colM k) weXw (weC k)) .ret
  | .af i h => .op (.waitDma2 (semR (.af i h)) (aSrc i h) (pfH i h) (weA i h) (wePf i h)) .ret
  | .ab i h => .op (.waitDma2 (semR (.ab i h)) (aSrc i h) (pbH i h) (weA i h) (wePb i h)) .ret
  | .bf i => .op (.waitDma2 (semR (.bf i)) (pfH i 0) (hfS i) (wePf i 0) (weHf i)) .ret
  | .bb i => .op (.waitDma2 (semR (.bb i)) (pbH i 1) (hbS i) (wePb i 1) (weHb i)) .ret

/-- Wait until one of the device's own copies has been read. -/
def waitSP : Sd → KP (F := F) PUnit
  | .col i => .op (.waitDma2 (semS (.col i)) (colM 0) xM (weC 0) weXw) .ret
  | .af i h => .op (.waitDma2 (semS (.af i h)) (pfH i h) (aSrc i h) (wePf i h) (weA i h)) .ret
  | .ab i h => .op (.waitDma2 (semS (.ab i h)) (pbH i h) (aSrc i h) (wePb i h) (weA i h)) .ret
  | .bf i => .op (.waitDma2 (semS (.bf i)) (hfS i) (pfH i 0) (weHf i) (wePf i 0)) .ret
  | .bb i => .op (.waitDma2 (semS (.bb i)) (hbS i) (pbH i 1) (weHb i) (wePb i 1)) .ret

/-- The program of one act. -/
def Act.prog (c : Dev nD) (w : FVec F S2048x128 .bf16) : Act → KP (F := F) PUnit
  | .sig _ n => semSignalWord n barS 1#32
  | .barw => semWaitWord barS 5#32
  | .send s n => sendP n s
  | .waitR r => waitRP r
  | .waitS s => waitSP s
  | .put q => putP c w q

/-- The program of a list of acts. -/
def run (c : Dev nD) (w : FVec F S2048x128 .bf16) : List Act → KP (F := F) PUnit
  | [] => .ret ⟨⟩
  | a :: l => (a.prog c w).bind fun _ => run c w l

/-! ## What each device does -/

/-- The five signals and the barrier. -/
def actsSig (c : Dev nD) : List Act :=
  [.sig 0 ⟨k0_dev1 c, k0_dev1_lt c⟩, .sig 1 ⟨k0_dev2 c, k0_dev2_lt c⟩, .sig 2 ⟨k0_dev3 c, k0_dev3_lt c⟩,
   .sig 3 ⟨k0_dev4 c, k0_dev4_lt c⟩, .sig 4 ⟨k0_dev5 c, k0_dev5_lt c⟩, .barw]

/-- The copies of a block's halves along the row: both to the next place, both to the one before. -/
def actsRow (i : Fin 4) (a b d e : Dev nD) : List Act :=
  [.send (.af i 0) a, .send (.af i 1) b, .send (.ab i 1) d, .send (.ab i 0) e]

/-- The device's own block: along the row, then its product. -/
def actsOwn (c : Dev nD) : List Act :=
  actsRow 0 ⟨k0_dev12 c, k0_dev12_lt c⟩ ⟨k0_dev13 c, k0_dev13_lt c⟩ ⟨k0_dev14 c, k0_dev14_lt c⟩ ⟨k0_dev15 c, k0_dev15_lt c⟩
    ++ [.put .x]

/-- A column slot: wait for it, pass it along the row, multiply it. -/
def actsCol (j : Fin 6) (a b d e : Dev nD) : List Act :=
  [.waitR (.col (kPut j))] ++ actsRow ((kPut j).succ) a b d e ++ [.put (.col j)]

/-- One index of the row slots: wait for each half, pass one on, multiply both slots. -/
def actsPass (i : Fin 4) (a b : Dev nD) : List Act :=
  [.waitR (.af i 0), .send (.bf i) a, .waitR (.af i 1), .put (.pf i),
   .waitR (.ab i 1), .send (.bb i) b, .waitR (.ab i 0), .put (.pb i)]

/-- The half slots passed on: wait for each and multiply it. -/
def actsFar (i : Fin 4) : List Act :=
  [.waitR (.bf i), .put (.hf i), .waitR (.bb i), .put (.hb i)]

/-- The four row slots, then the four passed on. -/
def actsRest (c : Dev nD) : List Act :=
  actsPass 0 ⟨k0_dev40 c, k0_dev40_lt c⟩ ⟨k0_dev41 c, k0_dev41_lt c⟩
    ++ actsPass 1 ⟨k0_dev42 c, k0_dev42_lt c⟩ ⟨k0_dev43 c, k0_dev43_lt c⟩
    ++ actsPass 2 ⟨k0_dev44 c, k0_dev44_lt c⟩ ⟨k0_dev45 c, k0_dev45_lt c⟩
    ++ actsPass 3 ⟨k0_dev46 c, k0_dev46_lt c⟩ ⟨k0_dev47 c, k0_dev47_lt c⟩
    ++ actsFar 0 ++ actsFar 1 ++ actsFar 2 ++ actsFar 3

/-- The device's own copies along the row, waited for at the end. -/
def actsDrain : List Act :=
  [.waitS (.af 0 0), .waitS (.af 0 1), .waitS (.ab 0 1), .waitS (.ab 0 0),
   .waitS (.af 1 0), .waitS (.ab 1 0), .waitS (.af 1 1), .waitS (.ab 1 1),
   .waitS (.af 3 0), .waitS (.ab 3 0), .waitS (.af 3 1), .waitS (.ab 3 1),
   .waitS (.af 2 0), .waitS (.ab 2 0), .waitS (.af 2 1), .waitS (.ab 2 1),
   .waitS (.bf 0), .waitS (.bb 0), .waitS (.bf 1), .waitS (.bb 1),
   .waitS (.bf 2), .waitS (.bb 2), .waitS (.bf 3), .waitS (.bb 3)]

/-- The column copies; a device whose row has no such neighbour starts none. -/
def actsSend (c : Dev nD) : List Act :=
  (if h : k0_cond1 c = 1#1 then [.send (.col 0) ⟨k0_dev6 c, k0_dev6_lt c h⟩] else [])
    ++ (if h : k0_cond2 c = 1#1 then [.send (.col 3) ⟨k0_dev7 c, k0_dev7_lt c h⟩] else [])
    ++ (if h : k0_cond3 c = 1#1 then [.send (.col 1) ⟨k0_dev8 c, k0_dev8_lt c h⟩] else [])
    ++ (if h : k0_cond4 c = 1#1 then [.send (.col 4) ⟨k0_dev9 c, k0_dev9_lt c h⟩] else [])
    ++ (if h : k0_cond5 c = 1#1 then [.send (.col 2) ⟨k0_dev10 c, k0_dev10_lt c h⟩] else [])
    ++ (if h : k0_cond6 c = 1#1 then [.send (.col 5) ⟨k0_dev11 c, k0_dev11_lt c h⟩] else [])

/-- The column slots, in the order the device takes them. -/
def actsCols (c : Dev nD) : List Act :=
  (if h : k0_cond7 c = 1#1 then actsCol 0 ⟨k0_dev16 c, k0_dev16_lt c h⟩ ⟨k0_dev17 c, k0_dev17_lt c h⟩ ⟨k0_dev18 c, k0_dev18_lt c h⟩ ⟨k0_dev19 c, k0_dev19_lt c h⟩
      else [])
    ++ (if h : k0_cond8 c = 1#1 then actsCol 1 ⟨k0_dev20 c, k0_dev20_lt c h⟩ ⟨k0_dev21 c, k0_dev21_lt c h⟩ ⟨k0_dev22 c, k0_dev22_lt c h⟩ ⟨k0_dev23 c, k0_dev23_lt c h⟩
      else [])
    ++ (if h : k0_cond9 c = 1#1 then actsCol 2 ⟨k0_dev24 c, k0_dev24_lt c h⟩ ⟨k0_dev25 c, k0_dev25_lt c h⟩ ⟨k0_dev26 c, k0_dev26_lt c h⟩ ⟨k0_dev27 c, k0_dev27_lt c h⟩
      else [])
    ++ (if h : k0_cond10 c = 1#1 then actsCol 3 ⟨k0_dev28 c, k0_dev28_lt c h⟩ ⟨k0_dev29 c, k0_dev29_lt c h⟩ ⟨k0_dev30 c, k0_dev30_lt c h⟩ ⟨k0_dev31 c, k0_dev31_lt c h⟩
      else [])
    ++ (if h : k0_cond11 c = 1#1 then actsCol 4 ⟨k0_dev32 c, k0_dev32_lt c h⟩ ⟨k0_dev33 c, k0_dev33_lt c h⟩ ⟨k0_dev34 c, k0_dev34_lt c h⟩ ⟨k0_dev35 c, k0_dev35_lt c h⟩
      else [])
    ++ (if h : k0_cond12 c = 1#1 then actsCol 5 ⟨k0_dev36 c, k0_dev36_lt c h⟩ ⟨k0_dev37 c, k0_dev37_lt c h⟩ ⟨k0_dev38 c, k0_dev38_lt c h⟩ ⟨k0_dev39 c, k0_dev39_lt c h⟩
      else [])

/-- The device's own column copies, waited for at the end. -/
def actsBack (c : Dev nD) : List Act :=
  (if k0_cond1 c = 1#1 then [.waitS (.col 0)] else [])
    ++ (if k0_cond2 c = 1#1 then [.waitS (.col 3)] else [])
    ++ (if k0_cond3 c = 1#1 then [.waitS (.col 1)] else [])
    ++ (if k0_cond4 c = 1#1 then [.waitS (.col 4)] else [])
    ++ (if k0_cond5 c = 1#1 then [.waitS (.col 2)] else [])
    ++ (if k0_cond6 c = 1#1 then [.waitS (.col 5)] else [])

/-- The acts of a device. -/
def acts (c : Dev nD) : List Act :=
  actsSig c ++ actsSend c ++ actsOwn c ++ actsCols c ++ actsRest c ++ actsBack c ++ actsDrain

end Cert.Run
-- ==== Proof.Plan.lean ====
/-
# The plan of a run

Who addresses whom, what each act of a device uses up and makes, what the device owes the others, and
in which order its waits stand to its debts: pure bookkeeping over finite lists, checked by evaluation
for the four rows of the mesh.
-/
module

public import proofs.«01_k».proof.Proof.Acts

@[expose] public section

noncomputable section

namespace Cert.Run

open Cert.KernelIdeal Cert.KernelIdeal.Gen
open Idealize.ShloMosaic Idealize.ShloMosaic.TcCoe

/-! ## The mesh -/

theorem nD_pos (n : ℕ) : n % 16 < nD := Nat.mod_lt _ (by decide)

/-- The next place on the device's row. -/
def nx (c : Dev nD) : Dev nD := ⟨(4 * (c.val / 4) + (c.val % 4 + 1) % 4) % 16, nD_pos _⟩
/-- The place before on the device's row. -/
def pv (c : Dev nD) : Dev nD := ⟨(4 * (c.val / 4) + (c.val % 4 + 3) % 4) % 16, nD_pos _⟩
/-- The place across on the device's row. -/
def op (c : Dev nD) : Dev nD := ⟨(4 * (c.val / 4) + (c.val % 4 + 2) % 4) % 16, nD_pos _⟩
/-- The device `i` rows below, around the mesh. -/
def dn (i : ℕ) (c : Dev nD) : Dev nD := ⟨(c.val + (16 - 4 * i)) % 16, nD_pos _⟩
/-- The device `i` rows above, around the mesh. -/
def up (i : ℕ) (c : Dev nD) : Dev nD := ⟨(c.val + 4 * i) % 16, nD_pos _⟩

/-- The device a signal goes to. -/
def sigDev (j : Fin 5) (c : Dev nD) : Dev nD := ![nx c, pv c, up 1 c, up 2 c, up 3 c] j

/-- The device a barrier signal comes from. -/
def giver (j : Fin 5) (c : Dev nD) : Dev nD := ![pv c, nx c, dn 1 c, dn 2 c, dn 3 c] j

/-- The device a copy goes to. -/
def tgt : Sd → Dev nD → Dev nD
  | .col i, c => up ((kOf i).val + 1) c
  | .af _ _, c => nx c
  | .ab _ _, c => pv c
  | .bf _, c => nx c
  | .bb _, c => pv c

/-- Whether a device in row `z` starts a copy: the column copies need the row they go to. -/
def active (z : ℕ) : Sd → Bool
  | .col i => ![decide (z + 1 ≤ 3), decide (z + 2 ≤ 3), decide (z + 3 ≤ 3), decide (1 ≤ z), decide (2 ≤ z), decide (3 ≤ z)] i
  | _ => true

/-! ## Acts without their devices -/

/-- An act, the device it addresses left out. -/
inductive Sh where
  | sig (j : Fin 5)
  | barw
  | send (s : Sd)
  | waitR (r : Rc)
  | waitS (s : Sd)
  | put (q : Src)
  deriving DecidableEq

/-- An act without its device. -/
def Act.sh : Act → Sh
  | .sig j _ => .sig j
  | .barw => .barw
  | .send s _ => .send s
  | .waitR r => .waitR r
  | .waitS s => .waitS s
  | .put q => .put q

/-- The act addresses the device it should. -/
def Act.ok (c : Dev nD) : Act → Prop
  | .sig j n => n = sigDev j c
  | .send s n => n = tgt s c
  | _ => True

def shRow (i : Fin 4) : List Sh := [.send (.af i 0), .send (.af i 1), .send (.ab i 1), .send (.ab i 0)]

def shCol (j : Fin 6) : List Sh := [.waitR (.col (kPut j))] ++ shRow ((kPut j).succ) ++ [.put (.col j)]

def shPass (i : Fin 4) : List Sh :=
  [.waitR (.af i 0), .send (.bf i), .waitR (.af i 1), .put (.pf i),
   .waitR (.ab i 1), .send (.bb i), .waitR (.ab i 0), .put (.pb i)]

def shFar (i : Fin 4) : List Sh := [.waitR (.bf i), .put (.hf i), .waitR (.bb i), .put (.hb i)]

/-- Whether a device in row `z` runs one of the six conditional blocks. -/
def takes (z : ℕ) (j : Fin 6) : Bool :=
  ![decide (1 ≤ z), decide (z ≤ 2), decide (2 ≤ z), decide (z ≤ 1), decide (3 ≤ z), decide (z ≤ 0)] j

/-- The acts of a device in row `z`. -/
def shape (z : ℕ) : List Sh :=
  [.sig 0, .sig 1, .sig 2, .sig 3, .sig 4, .barw]
    ++ (([0, 3, 1, 4, 2, 5] : List (Fin 6)).filter fun i => active z (.col i)).map (fun i => Sh.send (.col i))
    ++ (shRow 0 ++ [.put .x])
    ++ (([0, 1, 2, 3, 4, 5] : List (Fin 6)).filter fun j => takes z j).flatMap shCol
    ++ (shPass 0 ++ shPass 1 ++ shPass 2 ++ shPass 3 ++ shFar 0 ++ shFar 1 ++ shFar 2 ++ shFar 3)
    ++ (([0, 3, 1, 4, 2, 5] : List (Fin 6)).filter fun i => active z (.col i)).map (fun i => Sh.waitS (.col i))
    ++ actsDrain.map Act.sh

/-- The row of a device. -/
def row (c : Dev nD) : ℕ := c.val / 4

theorem conds_row (c : Dev nD) :
    (k0_cond1 c = 1#1 ↔ active (row c) (.col 0) = true) ∧ (k0_cond2 c = 1#1 ↔ active (row c) (.col 3) = true)
    ∧ (k0_cond3 c = 1#1 ↔ active (row c) (.col 1) = true) ∧ (k0_cond4 c = 1#1 ↔ active (row c) (.col 4) = true)
    ∧ (k0_cond5 c = 1#1 ↔ active (row c) (.col 2) = true) ∧ (k0_cond6 c = 1#1 ↔ active (row c) (.col 5) = true)
    ∧ (k0_cond7 c = 1#1 ↔ takes (row c) 0 = true) ∧ (k0_cond8 c = 1#1 ↔ takes (row c) 1 = true)
    ∧ (k0_cond9 c = 1#1 ↔ takes (row c) 2 = true) ∧ (k0_cond10 c = 1#1 ↔ takes (row c) 3 = true)
    ∧ (k0_cond11 c = 1#1 ↔ takes (row c) 4 = true) ∧ (k0_cond12 c = 1#1 ↔ takes (row c) 5 = true) := by
  revert c; decide +kernel

theorem map_dite {α β : Type} {p : Prop} [Decidable p] {b : Bool} (hb : p ↔ b = true) (l : p → List α) (f : α → β)
    (l' : List β) (h : ∀ hp, (l hp).map f = l') : (if hp : p then l hp else []).map f = if b then l' else [] := by
  by_cases hp : p
  · rw [dif_pos hp, if_pos (hb.1 hp), h hp]
  · rw [dif_neg hp, if_neg fun hh => hp (hb.2 hh)]; rfl

theorem filter_map_cons {α β : Type} (p : α → Bool) (f : α → β) (a : α) (l : List α) :
    ((a :: l).filter p).map f = (if p a then [f a] else []) ++ (l.filter p).map f := by
  cases h : p a <;> simp [h]

theorem filter_flatMap_cons {α β : Type} (p : α → Bool) (f : α → List β) (a : α) (l : List α) :
    ((a :: l).filter p).flatMap f = (if p a then f a else []) ++ (l.filter p).flatMap f := by
  cases h : p a <;> simp [h]

theorem acts_sh (c : Dev nD) : (acts c).map Act.sh = shape (row c) := by
  obtain ⟨h1, h2, h3, h4, h5, h6, h7, h8, h9, h10, h11, h12⟩ := conds_row c
  have hS : (actsSend c).map Act.sh
      = (([0, 3, 1, 4, 2, 5] : List (Fin 6)).filter fun i => active (row c) (.col i)).map (fun i => Sh.send (.col i)) := by
    unfold actsSend
    simp only [List.map_append, filter_map_cons]
    rw [map_dite h1 _ _ [.send (.col 0)] fun _ => rfl, map_dite h2 _ _ [.send (.col 3)] fun _ => rfl,
      map_dite h3 _ _ [.send (.col 1)] fun _ => rfl, map_dite h4 _ _ [.send (.col 4)] fun _ => rfl,
      map_dite h5 _ _ [.send (.col 2)] fun _ => rfl, map_dite h6 _ _ [.send (.col 5)] fun _ => rfl]
    simp only [List.append_assoc]; simp
  have hB : (actsBack c).map Act.sh
      = (([0, 3, 1, 4, 2, 5] : List (Fin 6)).filter fun i => active (row c) (.col i)).map (fun i => Sh.waitS (.col i)) := by
    unfold actsBack
    simp only [List.map_append, filter_map_cons]
    have hd : ∀ (p : Prop) [Decidable p] (l : List Act), (if p then l else []) = if _h : p then l else [] := fun _ _ _ => rfl
    simp only [hd]
    rw [map_dite h1 _ _ [.waitS (.col 0)] fun _ => rfl, map_dite h2 _ _ [.waitS (.col 3)] fun _ => rfl,
      map_dite h3 _ _ [.waitS (.col 1)] fun _ => rfl, map_dite h4 _ _ [.waitS (.col 4)] fun _ => rfl,
      map_dite h5 _ _ [.waitS (.col 2)] fun _ => rfl, map_dite h6 _ _ [.waitS (.col 5)] fun _ => rfl]
    simp only [List.append_assoc]; simp
  have hC : (actsCols c).map Act.sh
      = (([0, 1, 2, 3, 4, 5] : List (Fin 6)).filter fun j => takes (row c) j).flatMap shCol := by
    unfold actsCols
    simp only [List.map_append, filter_flatMap_cons]
    rw [map_dite h7 _ _ (shCol 0) fun _ => rfl, map_dite h8 _ _ (shCol 1) fun _ => rfl,
      map_dite h9 _ _ (shCol 2) fun _ => rfl, map_dite h10 _ _ (shCol 3) fun _ => rfl,
      map_dite h11 _ _ (shCol 4) fun _ => rfl, map_dite h12 _ _ (shCol 5) fun _ => rfl]
    simp only [List.append_assoc]; simp
  unfold acts shape
  simp only [List.map_append, hS, hB, hC]
  rfl

/-! ### The devices addressed -/

theorem devs (c : Dev nD) :
    (k0_dev1 c = (nx c).val ∧ k0_dev2 c = (pv c).val ∧ k0_dev3 c = (up 1 c).val ∧ k0_dev4 c = (up 2 c).val
      ∧ k0_dev5 c = (up 3 c).val)
    ∧ (k0_dev12 c = (nx c).val ∧ k0_dev13 c = (nx c).val ∧ k0_dev14 c = (pv c).val ∧ k0_dev15 c = (pv c).val)
    ∧ (k0_dev40 c = (nx c).val ∧ k0_dev41 c = (pv c).val ∧ k0_dev42 c = (nx c).val ∧ k0_dev43 c = (pv c).val
      ∧ k0_dev44 c = (nx c).val ∧ k0_dev45 c = (pv c).val ∧ k0_dev46 c = (nx c).val ∧ k0_dev47 c = (pv c).val) := by
  revert c; decide +kernel

theorem devs_col (c : Dev nD) :
    (k0_cond1 c = 1#1 → k0_dev6 c = (up 1 c).val) ∧ (k0_cond2 c = 1#1 → k0_dev7 c = (up 3 c).val)
    ∧ (k0_cond3 c = 1#1 → k0_dev8 c = (up 2 c).val) ∧ (k0_cond4 c = 1#1 → k0_dev9 c = (up 2 c).val)
    ∧ (k0_cond5 c = 1#1 → k0_dev10 c = (up 3 c).val) ∧ (k0_cond6 c = 1#1 → k0_dev11 c = (up 1 c).val) := by
  revert c; decide +kernel

theorem devs_row (c : Dev nD) :
    (k0_dev16 c = (nx c).val ∧ k0_dev17 c = (nx c).val ∧ k0_dev18 c = (pv c).val ∧ k0_dev19 c = (pv c).val)
    ∧ (k0_dev20 c = (nx c).val ∧ k0_dev21 c = (nx c).val ∧ k0_dev22 c = (pv c).val ∧ k0_dev23 c = (pv c).val)
    ∧ (k0_dev24 c = (nx c).val ∧ k0_dev25 c = (nx c).val ∧ k0_dev26 c = (pv c).val ∧ k0_dev27 c = (pv c).val)
    ∧ (k0_dev28 c = (nx c).val ∧ k0_dev29 c = (nx c).val ∧ k0_dev30 c = (pv c).val ∧ k0_dev31 c = (pv c).val)
    ∧ (k0_dev32 c = (nx c).val ∧ k0_dev33 c = (nx c).val ∧ k0_dev34 c = (pv c).val ∧ k0_dev35 c = (pv c).val)
    ∧ (k0_dev36 c = (nx c).val ∧ k0_dev37 c = (nx c).val ∧ k0_dev38 c = (pv c).val ∧ k0_dev39 c = (pv c).val) := by
  revert c; decide +kernel

theorem ok_append {c : Dev nD} {l l' : List Act} (h : ∀ a ∈ l, a.ok c) (h' : ∀ a ∈ l', a.ok c) :
    ∀ a ∈ l ++ l', a.ok c := fun a ha => (List.mem_append.1 ha).elim (h a) (h' a)

theorem ok_dite {c : Dev nD} {p : Prop} [Decidable p] {l : p → List Act} (h : ∀ hp, ∀ a ∈ l hp, a.ok c) :
    ∀ a ∈ (if hp : p then l hp else []), a.ok c := by
  by_cases hp : p
  · rw [dif_pos hp]; exact h hp
  · rw [dif_neg hp]; exact fun a ha => absurd ha List.not_mem_nil

theorem ok_one {c : Dev nD} {x : Act} (h : x.ok c) : ∀ a ∈ [x], a.ok c := by
  intro a ha; rw [List.mem_singleton.1 ha]; exact h

theorem ok_row {c : Dev nD} (i : Fin 4) {a b d e : Dev nD} (h : a = nx c ∧ b = nx c ∧ d = pv c ∧ e = pv c) :
    ∀ x ∈ actsRow i a b d e, x.ok c := by
  obtain ⟨rfl, rfl, rfl, rfl⟩ := h
  intro x hx; simp only [actsRow, List.mem_cons, List.not_mem_nil, or_false] at hx
  obtain rfl | rfl | rfl | rfl := hx <;> rfl

theorem ok_col {c : Dev nD} (j : Fin 6) {a b d e : Dev nD} (h : a = nx c ∧ b = nx c ∧ d = pv c ∧ e = pv c) :
    ∀ x ∈ actsCol j a b d e, x.ok c :=
  ok_append (ok_append (ok_one trivial) (ok_row _ h)) (ok_one trivial)

theorem ok_pass {c : Dev nD} (i : Fin 4) {a b : Dev nD} (h : a = nx c ∧ b = pv c) :
    ∀ x ∈ actsPass i a b, x.ok c := by
  obtain ⟨rfl, rfl⟩ := h
  intro x hx; simp only [actsPass, List.mem_cons, List.not_mem_nil, or_false] at hx
  obtain rfl | rfl | rfl | rfl | rfl | rfl | rfl | rfl := hx <;> first | rfl | trivial

theorem acts_ok (c : Dev nD) : ∀ a ∈ acts c, a.ok c := by
  obtain ⟨⟨d1, d2, d3, d4, d5⟩, ⟨d12, d13, d14, d15⟩, d40, d41, d42, d43, d44, d45, d46, d47⟩ := devs c
  obtain ⟨d6, d7, d8, d9, d10, d11⟩ := devs_col c
  obtain ⟨b0, b1, b2, b3, b4, b5⟩ := devs_row c
  have hr : ∀ {a b d e : Dev nD}, (a.val = (nx c).val ∧ b.val = (nx c).val ∧ d.val = (pv c).val ∧ e.val = (pv c).val) →
      a = nx c ∧ b = nx c ∧ d = pv c ∧ e = pv c := fun h => ⟨Fin.ext h.1, Fin.ext h.2.1, Fin.ext h.2.2.1, Fin.ext h.2.2.2⟩
  unfold acts
  refine ok_append (ok_append (ok_append (ok_append (ok_append (ok_append ?_ ?_) ?_) ?_) ?_) ?_) ?_
  · intro x hx; simp only [actsSig, List.mem_cons, List.not_mem_nil, or_false] at hx
    obtain rfl | rfl | rfl | rfl | rfl | rfl := hx
    · exact Fin.ext d1
    · exact Fin.ext d2
    · exact Fin.ext d3
    · exact Fin.ext d4
    · exact Fin.ext d5
    · trivial
  · unfold actsSend
    refine ok_append (ok_append (ok_append (ok_append (ok_append ?_ ?_) ?_) ?_) ?_) ?_ <;>
      refine ok_dite fun hp => ok_one (Fin.ext ?_)
    · exact d6 hp
    · exact d7 hp
    · exact d8 hp
    · exact d9 hp
    · exact d10 hp
    · exact d11 hp
  · exact ok_append (ok_row 0 (hr ⟨d12, d13, d14, d15⟩)) (ok_one trivial)
  · unfold actsCols
    refine ok_append (ok_append (ok_append (ok_append (ok_append ?_ ?_) ?_) ?_) ?_) ?_ <;>
      refine ok_dite fun hp => ok_col _ (hr ?_)
    · exact b0
    · exact b1
    · exact b2
    · exact b3
    · exact b4
    · exact b5
  · have hp : ∀ {a b : Dev nD}, a.val = (nx c).val → b.val = (pv c).val → a = nx c ∧ b = pv c :=
      fun h h' => ⟨Fin.ext h, Fin.ext h'⟩
    have hf : ∀ i, ∀ x ∈ actsFar i, x.ok c := by
      intro i x hx; simp only [actsFar, List.mem_cons, List.not_mem_nil, or_false] at hx
      obtain rfl | rfl | rfl | rfl := hx <;> trivial
    exact ok_append (ok_append (ok_append (ok_append (ok_append (ok_append (ok_append
      (ok_pass 0 (hp d40 d41)) (ok_pass 1 (hp d42 d43))) (ok_pass 2 (hp d44 d45))) (ok_pass 3 (hp d46 d47)))
      (hf 0)) (hf 1)) (hf 2)) (hf 3)
  · unfold actsBack
    have hd : ∀ (p : Prop) [Decidable p] (l : List Act), (if p then l else []) = if _h : p then l else [] := fun _ _ _ => rfl
    simp only [hd]
    refine ok_append (ok_append (ok_append (ok_append (ok_append ?_ ?_) ?_) ?_) ?_) ?_ <;>
      exact ok_dite fun hp => ok_one trivial
  · intro x hx
    have : ∀ y ∈ actsDrain.map Act.sh, ∃ s, y = Sh.waitS s := by
      intro y hy
      simp only [actsDrain, List.map_cons, List.map_nil, Act.sh, List.mem_cons, List.not_mem_nil, or_false] at hy
      rcases hy with h | h | h | h | h | h | h | h | h | h | h | h | h | h | h | h | h | h | h | h | h | h | h | h <;>
        exact ⟨_, h⟩
    obtain ⟨s, hs⟩ := this _ (List.mem_map_of_mem hx)
    cases x <;> simp only [Act.sh, reduceCtorEq] at hs
    trivial

/-! ## What a device holds

Its holdings are a list of tokens; each act uses some up and makes others. -/

/-- A semaphore of a device. -/
inductive Ce where
  | bar
  | S (s : Sd)
  | R (r : Rc)
  deriving DecidableEq

/-- A part of a buffer kept for reading. -/
inductive Pc where
  | x
  | col (k : Fin 3)
  | pf (i : Fin 4) (h : Fin 2)
  | pb (i : Fin 4) (h : Fin 2)
  | hf (i : Fin 4)
  | hb (i : Fin 4)
  | pfR (i : Fin 4)
  | pbR (i : Fin 4)
  deriving DecidableEq

/-- One thing a device holds: the right to signal (with the slots given away by it), its place at the
    barrier, a semaphore it is done with, the right to start a copy, a slot elsewhere to copy into, the
    share a copy reads, a copy under way, a copy expected, a share kept. -/
inductive Tok where
  | sigd (j : Fin 5)
  | atBar
  | don (x : Ce)
  | rdy (s : Sd)
  | dst (s : Sd)
  | src (s : Sd)
  | fly (s : Sd)
  | exp (r : Rc)
  | keep (p : Pc)
  deriving DecidableEq

def allS : List Sd :=
  (List.finRange 6).map .col ++ (List.finRange 4).flatMap (fun i => [.af i 0, .af i 1, .ab i 0, .ab i 1, .bf i, .bb i])

def allR : List Rc :=
  (List.finRange 3).map .col ++ (List.finRange 4).flatMap (fun i => [.af i 0, .af i 1, .ab i 0, .ab i 1, .bf i, .bb i])

theorem mem_allS (s : Sd) : s ∈ allS := by
  rcases s with i | ⟨i, h⟩ | ⟨i, h⟩ | i | i
  · revert i; decide
  · revert i h; decide
  · revert i h; decide
  · revert i; decide
  · revert i; decide

theorem mem_allR (r : Rc) : r ∈ allR := by
  rcases r with i | ⟨i, h⟩ | ⟨i, h⟩ | i | i
  · revert i; decide
  · revert i h; decide
  · revert i h; decide
  · revert i; decide
  · revert i; decide

/-- Every semaphore of a device. -/
def allC : List Ce := .bar :: (allS.map .S ++ allR.map .R)

theorem mem_allC (x : Ce) : x ∈ allC := by
  rcases x with _ | s | r
  · exact List.mem_cons_self
  · exact List.mem_cons_of_mem _ (List.mem_append_left _ (List.mem_map_of_mem (mem_allS s)))
  · exact List.mem_cons_of_mem _ (List.mem_append_right _ (List.mem_map_of_mem (mem_allR r)))

theorem nodup_allC : allC.Nodup := by decide +kernel
theorem nodup_allS : allS.Nodup := by decide +kernel
theorem nodup_allR : allR.Nodup := by decide +kernel

instance : Fintype Sd := ⟨⟨allS, nodup_allS⟩, mem_allS⟩
instance : Fintype Rc := ⟨⟨allR, nodup_allR⟩, mem_allR⟩
instance : Fintype Ce := ⟨⟨allC, nodup_allC⟩, mem_allC⟩

/-- The active copy among the two that may land in a column slot. -/
def colS (z : ℕ) (k : Fin 3) : Sd := if active z (.col ⟨k.val, by omega⟩) then .col ⟨k.val, by omega⟩ else .col ⟨5 - k.val, by omega⟩

/-- The slots a signal slotsOf away, by the copies that will fill them. -/
def given (z : ℕ) (j : Fin 5) : List Sd :=
  ![(List.finRange 4).flatMap fun i => [.ab i 0, .ab i 1, .bb i],
    (List.finRange 4).flatMap fun i => [.af i 0, .af i 1, .bf i],
    [colS z 2], [colS z 1], [colS z 0]] j

/-- The same slots, as places of their owner. -/
def slotsOf (j : Fin 5) : List Rc :=
  ![(List.finRange 4).flatMap fun i => [.ab i 0, .ab i 1, .bb i],
    (List.finRange 4).flatMap fun i => [.af i 0, .af i 1, .bf i],
    [.col 2], [.col 1], [.col 0]] j

/-- What a landing hands over. -/
def pieces : Rc → List Tok
  | .col k => [.keep (.col k), .src (.af k.succ 0), .src (.af k.succ 1), .src (.ab k.succ 0), .src (.ab k.succ 1)]
  | .af i h => if h = 0 then [.keep (.pf i 0), .src (.bf i)] else [.keep (.pf i 1), .keep (.pfR i)]
  | .ab i h => if h = 1 then [.keep (.pb i 1), .src (.bb i)] else [.keep (.pb i 0), .keep (.pbR i)]
  | .bf i => [.keep (.hf i)]
  | .bb i => [.keep (.hb i)]

/-- The shares a product reads through. -/
def reads : Src → List Tok
  | .x => [.keep .x]
  | .col j => [.keep (.col (kPut j))]
  | .pf i => [.keep (.pf i 0), .keep (.pf i 1)]
  | .pb i => [.keep (.pb i 0), .keep (.pb i 1)]
  | .hf i => [.keep (.hf i)]
  | .hb i => [.keep (.hb i)]

/-- What an act uses up. -/
def uses : Sh → List Tok
  | .sig j => [.sigd j]
  | .barw => [.atBar]
  | .send s => [.rdy s, .src s, .dst s]
  | .waitR r => [.exp r]
  | .waitS s => [.fly s]
  | .put q => reads q

/-- What an act makes, in row `z`. -/
def makes (z : ℕ) : Sh → List Tok
  | .sig j => []
  | .barw => .don .bar :: (given z 0 ++ given z 1 ++ given z 2 ++ given z 3 ++ given z 4).map .dst
  | .send s => [.fly s]
  | .waitR r => .don (.R r) :: pieces r
  | .waitS s => [.don (.S s), .src s]
  | .put q => reads q

/-- Take tokens out of a list, if they are all there. -/
def take : List Tok → List Tok → Option (List Tok)
  | [], S => some S
  | t :: T, S => if t ∈ S then take T (S.erase t) else none

/-! ## What a device owes -/

/-- A debt: a signal, a landing. -/
inductive Dt where
  | bar (j : Fin 5)
  | snd (s : Sd)
  deriving DecidableEq

/-- The semaphore a debt is owed to. -/
def Dt.ce : Dt → Ce
  | .bar _ => .bar
  | .snd s => .R s.rc

/-- The debt an act pays. -/
def pays : Sh → Option Dt
  | .sig j => some (.bar j)
  | .send s => some (.snd s)
  | _ => none

/-- The order of waits: a device may wait on a semaphore while its debts all stand higher. -/
def lvl : Ce → ℕ
  | .bar => 1
  | .S _ => 0
  | .R (.col _) => 2
  | .R (.af _ _) | .R (.ab _ _) => 3
  | .R (.bf _) | .R (.bb _) => 4

/-- The semaphore an act waits on. -/
def waits : Sh → Option Ce
  | .barw => some .bar
  | .waitR r => some (.R r)
  | .waitS s => some (.S s)
  | _ => none

/-- The debts a list of acts pays. -/
def debts (l : List Sh) : List Dt := l.filterMap pays

/-- The act's wait stands below the debts. -/
def below (a : Sh) (l : List Dt) : Bool :=
  match waits a with
  | some x => l.all fun t => decide (lvl x < lvl t.ce)
  | none => true

/-- The copy an act starts is one the row starts; the copy it waits for as well. -/
def sane (z : ℕ) : Sh → Bool
  | .send s => active z s
  | .waitS s => active z s
  | _ => true

/-- Run the list on holdings, checking every act. -/
def check (z : ℕ) : List Sh → List Tok → Option (List Tok)
  | [], S => some S
  | a :: l, S =>
    if sane z a && below a (debts l) then
      match take (uses a) S with
      | some S' => check z l (makes z a ++ S')
      | none => none
    else none

/-- The shares of a device's own block lent to its copies. -/
def ownSrc (z : ℕ) : List Sd := [colS z 0, colS z 1, colS z 2, .af 0 0, .af 0 1, .ab 0 0, .ab 0 1]

/-- What a device in row `z` starts with. -/
def start (z : ℕ) : List Tok :=
  [.sigd 0, .sigd 1, .sigd 2, .sigd 3, .sigd 4, .atBar] ++ (allS.filter fun s => active z s).map .rdy
    ++ (allS.filter fun s => !active z s).map (fun s => Tok.don (.S s)) ++ allR.map .exp
    ++ (ownSrc z).map .src ++ [.keep .x]

/-- What it ends with: every semaphore done with, every share back. -/
def finish (z : ℕ) : List Tok :=
  [.don .bar] ++ allS.map (fun s => Tok.don (.S s)) ++ allR.map (fun r => Tok.don (.R r))
    ++ (ownSrc z).map .src ++ [.keep .x]
    ++ (List.finRange 3).flatMap (fun k =>
        [.keep (.col k), .src (.af k.succ 0), .src (.af k.succ 1), .src (.ab k.succ 0), .src (.ab k.succ 1)])
    ++ (List.finRange 4).flatMap (fun i => [.keep (.pf i 0), .src (.bf i), .keep (.pf i 1), .keep (.pfR i),
        .keep (.pb i 1), .src (.bb i), .keep (.pb i 0), .keep (.pbR i), .keep (.hf i), .keep (.hb i)])

/-- The whole list runs, and leaves what it should. -/
theorem check_shape (z : Fin 4) :
    ((check z.val (shape z.val) (start z.val)).bind (take (finish z.val))) = some [] := by
  revert z; decide +kernel

/-- The debts at the start: the five signals and one landing for each copy. -/
theorem debts_shape (z : Fin 4) :
    (debts (shape z.val)).Perm ((List.finRange 5).map .bar ++ (allS.filter fun s => active z.val s).map .snd) := by
  revert z; decide +kernel

/-! ## Who pays whom -/

theorem giver_sigDev (j : Fin 5) (c : Dev nD) : giver j (sigDev j c) = c := by revert j c; decide +kernel
theorem sigDev_giver (j : Fin 5) (c : Dev nD) : sigDev j (giver j c) = c := by revert j c; decide +kernel

theorem given_rc (z : Fin 4) (j : Fin 5) : (given z.val j).map Sd.rc = slotsOf j := by revert z j; decide +kernel

theorem given_tgt (j : Fin 5) (c : Dev nD) : ∀ s ∈ given (row c) j, tgt s c = giver j c := by
  revert j c; decide +kernel

theorem row_lt (c : Dev nD) : row c < 4 := by revert c; decide

/-- The device's row, among the four. -/
def rowF (c : Dev nD) : Fin 4 := ⟨row c, row_lt c⟩

/-- The device a landing comes from. -/
def from' : Rc → Dev nD → Dev nD
  | .col k, c => dn (k.val + 1) c
  | .af _ _, c => pv c
  | .ab _ _, c => nx c
  | .bf _, c => pv c
  | .bb _, c => nx c

/-- The copy a landing comes by, in the row of its sender. -/
def by' (z : ℕ) : Rc → Sd
  | .col k => colS z k
  | .af i h => .af i h
  | .ab i h => .ab i h
  | .bf i => .bf i
  | .bb i => .bb i

end Cert.Run
-- ==== Proof.Slots.lean ====
/-
# What the slots hold

Every slot ends up holding the block of some device, whole or by halves. This module says which, names
the shares each copy reads through, and shows that each copy leaves its slot with what it should.
-/
module

public import proofs.«01_k».proof.Proof.Plan
public import Idealize.ShloMosaic.Lib.Pointwise.Index
public import Idealize.ShloMosaic.Lib.Pipeline.Value
public import Idealize.ShloMosaic.Lib.Pipeline.ValueKit.Geometry

@[expose] public section

noncomputable section

namespace Cert.Run

open Cert.KernelIdeal Cert.KernelIdeal.Gen
open Idealize.ShloMosaic Idealize.ShloMosaic.TcCoe
open Idealize.SL Idealize.SL.RA Idealize.SL.BI
open Idealize.SL.Sem

variable {F : FTy → Type} [FloatOps F]

/-- A block of every device. -/
abbrev Blocks (F : FTy → Type) : Type := Dev nD → S128x2048.Idx → Elt F .bf16

variable (X : Blocks F)

/-! ## Contents -/

/-- The device's own block. -/
def xB (c : Dev nD) : Buf (Elt F) ((c : Thread nD τ).loc cc0_stg0_0) := X c

/-- The column slots: the blocks of the rows below. -/
def colB (c : Dev nD) : Buf (Elt F) ((c : Thread nD τ).loc cc0_scratch0) :=
  fun (i : S3x128x2048.Idx) => X (dn ((i 0).val + 1) c) (ix2 (n0 := 128) (n1 := 2048) (i 1) (i 2))

/-- The slots filled from behind: the column of the place before. -/
def pfB (c : Dev nD) : Buf (Elt F) ((c : Thread nD τ).loc cc0_scratch1) :=
  fun (i : S4x128x2048.Idx) => X (dn (i 0).val (pv c)) (ix2 (n0 := 128) (n1 := 2048) (i 1) (i 2))

/-- The slots filled from ahead: the column of the next place. -/
def pbB (c : Dev nD) : Buf (Elt F) ((c : Thread nD τ).loc cc0_scratch2) :=
  fun (i : S4x128x2048.Idx) => X (dn (i 0).val (nx c)) (ix2 (n0 := 128) (n1 := 2048) (i 1) (i 2))

/-- The half slots passed on from behind: the upper halves of the column across. -/
def hfB (c : Dev nD) : Buf (Elt F) ((c : Thread nD τ).loc cc0_scratch3) :=
  fun (i : S4x64x2048.Idx) => X (dn (i 0).val (op c))
    (ix2 (n0 := 128) (n1 := 2048) ⟨(i 1).val, lt_trans (i 1).isLt (by decide)⟩ (i 2))

theorem lt_low (a : Fin 64) : 64 + a.val < 128 := by omega

/-- The half slots passed on from ahead: the lower halves of the column across. -/
def hbB (c : Dev nD) : Buf (Elt F) ((c : Thread nD τ).loc cc0_scratch4) :=
  fun (i : S4x64x2048.Idx) => X (dn (i 0).val (op c))
    (ix2 (n0 := 128) (n1 := 2048) ⟨64 + (i 1).val, lt_low (i 1)⟩ (i 2))

/-- What a landing place ends up holding. -/
def dstB (c : Dev nD) : (r : Rc) → Buf (Elt F) ((dstM r).view.loc (c : Thread nD τ))
  | .col _ => colB X c
  | .af _ _ => pfB X c
  | .ab _ _ => pbB X c
  | .bf _ => hfB X c
  | .bb _ => hbB X c

/-- What a row copy reads from. -/
def aB (c : Dev nD) (h : Fin 2) : (i : Fin 4) → Buf (Elt F) ((aSrc i h).view.loc (c : Thread nD τ))
  | 0 => xB X c
  | 1 => colB X c
  | 2 => colB X c
  | 3 => colB X c

/-- What a copy reads from. -/
def srcB (c : Dev nD) : (s : Sd) → Buf (Elt F) ((srcM s).view.loc (c : Thread nD τ))
  | .col _ => xB X c
  | .af i h => aB X c h i
  | .ab i h => aB X c h i
  | .bf _ => pfB X c
  | .bb _ => pbB X c

/-! ## Indices -/

section Rect3
variable {n0 n1 n2 r : ℕ} (a o : ℕ)
  (inb : ∀ x, (![a, o, 0] : Fin 3 → ℕ) x + (⟨3, ![1, r, n2]⟩ : Shape).size x ≤ (⟨3, ![n0, n1, n2]⟩ : Shape).size x)
  (h : (⟨2, ![r, n2]⟩ : Shape).numel = (⟨3, ![1, r, n2]⟩ : Shape).numel) (j : (⟨2, ![r, n2]⟩ : Shape).Idx)

theorem rect3_0 : ((Rect.unit (s := ⟨3, ![n0, n1, n2]⟩) ![a, o, 0] (⟨3, ![1, r, n2]⟩ : Shape).size inb).emb
    (Shape.reshapeEquiv h j) 0 : ℕ) = a := by
  rw [ValueKit.rect_emb_unit_val, Shape.reshapeEquiv_cons_one (d := ![r, n2])]; rfl

theorem rect3_1 : ((Rect.unit (s := ⟨3, ![n0, n1, n2]⟩) ![a, o, 0] (⟨3, ![1, r, n2]⟩ : Shape).size inb).emb
    (Shape.reshapeEquiv h j) 1 : ℕ) = o + (j 0).val := by
  rw [ValueKit.rect_emb_unit_val, Shape.reshapeEquiv_cons_one (d := ![r, n2])]; rfl

theorem rect3_2 : ((Rect.unit (s := ⟨3, ![n0, n1, n2]⟩) ![a, o, 0] (⟨3, ![1, r, n2]⟩ : Shape).size inb).emb
    (Shape.reshapeEquiv h j) 2 : ℕ) = (j 1).val := by
  rw [ValueKit.rect_emb_unit_val, Shape.reshapeEquiv_cons_one (d := ![r, n2])]
  show 0 + (j 1).val = _; omega

theorem mem_rect3 {i : (⟨3, ![n0, n1, n2]⟩ : Shape).Idx} :
    i ∈ (Rect.unit (s := ⟨3, ![n0, n1, n2]⟩) ![a, o, 0] (⟨3, ![1, r, n2]⟩ : Shape).size inb).set
      ↔ (i 0).val = a ∧ o ≤ (i 1).val ∧ (i 1).val < o + r := by
  have h2 : n2 ≤ n2 := le_refl _
  rw [Rect.mem_set_unit]
  constructor
  · intro hh
    have h0 := hh 0; have h1 := hh 1
    exact ⟨by have : a ≤ (i 0).val ∧ (i 0).val < a + 1 := h0; omega, h1.1, h1.2⟩
  · rintro ⟨e, e1, e2⟩ x
    fin_cases x
    · show a ≤ (i 0).val ∧ (i 0).val < a + 1; omega
    · exact ⟨e1, e2⟩
    · show 0 ≤ (i 2).val ∧ (i 2).val < 0 + n2
      have := (i 2).isLt
      exact ⟨Nat.zero_le _, by rw [Nat.zero_add]; exact this⟩

end Rect3

theorem idx2_ext {n0 n1 : ℕ} {f g : (⟨2, ![n0, n1]⟩ : Shape).Idx} (h0 : (f 0).val = (g 0).val) (h1 : (f 1).val = (g 1).val) :
    f = g := by
  funext x
  match x with
  | 0 => exact Fin.ext h0
  | 1 => exact Fin.ext h1

/-! ## Each copy leaves its slot with what it should hold -/

theorem mesh_facts (c : Dev nD) :
    (∀ k : Fin 3, dn (k.val + 1) (up (k.val + 1) c) = c) ∧ pv (nx c) = c ∧ nx (pv c) = c ∧ op (nx c) = pv c
      ∧ op (pv c) = nx c ∧ dn 0 c = c := by
  revert c; decide +kernel

theorem X_congr {d d' : Dev nD} {i j : S128x2048.Idx} (hd : d = d') (h0 : (i 0).val = (j 0).val)
    (h1 : (i 1).val = (j 1).val) : X d i = X d' j := by
  subst hd; exact congrArg (X d) (idx2_ext h0 h1)

/-- Element by element, what a row copy reads is the sender's column. -/
theorem aB_emb (c : Dev nD) (i : Fin 4) (h : Fin 2) (j : S64x2048.Idx) (l : S128x2048.Idx)
    (h0 : (l 0).val = 64 * h.val + (j 0).val) (h1 : (l 1).val = (j 1).val) :
    (aSrc i h).view.read (Elt F) (aB X c h i) j = X (dn i.val c) l := by
  match i with
  | 0 =>
    show X c ((Rect.unit (s := S128x2048) ![64 * h.val, 0] S64x2048.size (inbX h)).emb j) = _
    refine X_congr X (mesh_facts c).2.2.2.2.2.symm ?_ ?_
    · rw [ValueKit.rect_emb_unit_val, h0]; rfl
    · rw [ValueKit.rect_emb_unit_val, h1]; show 0 + _ = _; omega
  | 1 =>
    exact X_congr X (congrArg (fun n => dn (n + 1) c) (rect3_0 0 (64 * h.val) (inbCh 0 h) _ j))
      ((rect3_1 0 (64 * h.val) (inbCh 0 h) _ j).trans h0.symm) ((rect3_2 0 (64 * h.val) (inbCh 0 h) _ j).trans h1.symm)
  | 2 =>
    exact X_congr X (congrArg (fun n => dn (n + 1) c) (rect3_0 1 (64 * h.val) (inbCh 1 h) _ j))
      ((rect3_1 1 (64 * h.val) (inbCh 1 h) _ j).trans h0.symm) ((rect3_2 1 (64 * h.val) (inbCh 1 h) _ j).trans h1.symm)
  | 3 =>
    exact X_congr X (congrArg (fun n => dn (n + 1) c) (rect3_0 2 (64 * h.val) (inbCh 2 h) _ j))
      ((rect3_1 2 (64 * h.val) (inbCh 2 h) _ j).trans h0.symm) ((rect3_2 2 (64 * h.val) (inbCh 2 h) _ j).trans h1.symm)

/-- Element by element, a copy reads at its source what its slot is to hold. -/
theorem src_dst (s : Sd) (c : Dev nD) (j : s.rc.shp.Idx) :
    (srcM s).view.read (Elt F) (srcB X c s) j = (dstM s.rc).view.read (Elt F) (dstB X (tgt s c) s.rc) j := by
  obtain ⟨hcol, hpn, hnp, hon, hop, h0⟩ := mesh_facts c
  cases s with
  | col i =>
    refine (X_congr X ?_ ?_ ?_ : X c j = _)
    · exact ((congrArg (fun n => dn (n + 1) (up ((kOf i).val + 1) c)) (rect3_0 (kOf i).val 0 (inbC (kOf i)) _ j)).trans
        (hcol (kOf i))).symm
    · exact ((rect3_1 (kOf i).val 0 (inbC (kOf i)) _ j).trans (Nat.zero_add _)).symm
    · exact (rect3_2 (kOf i).val 0 (inbC (kOf i)) _ j).symm
  | af i h =>
    refine (aB_emb X c i h j _ ?_ ?_).trans (X_congr X ?_ rfl rfl :
      X (dn i.val c) (ix2 (n0 := 128) (n1 := 2048) ((pfH i h).view.emb j 1) ((pfH i h).view.emb j 2)) = _)
    · exact rect3_1 i.val (64 * h.val) (inbPh i h) _ j
    · exact rect3_2 i.val (64 * h.val) (inbPh i h) _ j
    · show dn i.val c = dn _ (pv (nx c))
      rw [hpn]
      exact congrArg (fun n => dn n c) (rect3_0 i.val (64 * h.val) (inbPh i h) _ j).symm
  | ab i h =>
    refine (aB_emb X c i h j _ ?_ ?_).trans (X_congr X ?_ rfl rfl :
      X (dn i.val c) (ix2 (n0 := 128) (n1 := 2048) ((pbH i h).view.emb j 1) ((pbH i h).view.emb j 2)) = _)
    · exact rect3_1 i.val (64 * h.val) (inbPh i h) _ j
    · exact rect3_2 i.val (64 * h.val) (inbPh i h) _ j
    · show dn i.val c = dn _ (nx (pv c))
      rw [hnp]
      exact congrArg (fun n => dn n c) (rect3_0 i.val (64 * h.val) (inbPh i h) _ j).symm
  | bf i =>
    refine (X_congr X ?_ ?_ ?_ : X (dn ((pfH i 0).view.emb j 0).val (pv c))
      (ix2 (n0 := 128) (n1 := 2048) ((pfH i 0).view.emb j 1) ((pfH i 0).view.emb j 2)) = _)
    · show _ = dn _ (op (nx c))
      rw [hon]
      exact congrArg (fun n => dn n (pv c)) ((rect3_0 i.val (64 * (0 : Fin 2).val) (inbPh i 0) _ j).trans
        (rect3_0 i.val 0 (inbH i) _ j).symm)
    · exact (rect3_1 i.val (64 * (0 : Fin 2).val) (inbPh i 0) _ j).trans (rect3_1 i.val 0 (inbH i) _ j).symm
    · exact (rect3_2 i.val (64 * (0 : Fin 2).val) (inbPh i 0) _ j).trans (rect3_2 i.val 0 (inbH i) _ j).symm
  | bb i =>
    refine (X_congr X ?_ ?_ ?_ : X (dn ((pbH i 1).view.emb j 0).val (nx c))
      (ix2 (n0 := 128) (n1 := 2048) ((pbH i 1).view.emb j 1) ((pbH i 1).view.emb j 2)) = _)
    · show _ = dn _ (op (pv c))
      rw [hop]
      exact congrArg (fun n => dn n (nx c)) ((rect3_0 i.val (64 * (1 : Fin 2).val) (inbPh i 1) _ j).trans
        (rect3_0 i.val 0 (inbH i) _ j).symm)
    · refine (rect3_1 i.val (64 * (1 : Fin 2).val) (inbPh i 1) _ j).trans ?_
      exact congrArg (64 + ·) ((rect3_1 i.val 0 (inbH i) _ j).trans (Nat.zero_add _)).symm
    · exact (rect3_2 i.val (64 * (1 : Fin 2).val) (inbPh i 1) _ j).trans (rect3_2 i.val 0 (inbH i) _ j).symm

/-- A copy landed: on its slot, the contents the slot is to hold. -/
theorem landed (s : Sd) (c n : Dev nD) (hn : n = tgt s c) (fd : Buf (Elt F) ((dstM s.rc).view.loc (n : Thread nD τ))) :
    ∀ i ∈ (dstM s.rc).view.set,
      (dstM s.rc).view.write (Elt F) fd ((srcM s).view.read (Elt F) (srcB X c s)) Finset.univ i = dstB X n s.rc i := by
  subst hn
  intro i hi
  obtain ⟨j, -, rfl⟩ := Finset.mem_map.1 hi
  rw [View.write_emb_of_mem (h := Finset.mem_univ j), src_dst, View.read_apply, cast_cast, cast_eq]

end Cert.Run
-- ==== Proof.Sched.lean ====
/-
# The protocol

Every semaphore is used for one round. A device's barrier gets five signals, each handing over the slots
of its sender that this device will fill. A copy hands back the share it read when its source has been
read, and the filled slot where it lands. This module states those rounds, what a device owes, the order
of waits, and the resource behind every token of the plan.
-/
module

public import proofs.«01_k».proof.Proof.Slots

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A resource for each member of a list. -/
def holds {α : Type} (P : α → sProp 𝕄) : List α → sProp 𝕄
  | [] => iprop(emp)
  | a :: l => iprop(P a ∗ holds P l)

instance holds_storable {α : Type} (P : α → sProp 𝕄) [h : ∀ a, BI.Storable (upEmb : UEmb _ 𝕄) (P a)] (l : List α) :
    BI.Storable (upEmb : UEmb _ 𝕄) (holds P l) := by
  induction l with
  | nil => unfold holds; infer_instance
  | cons a l ih => unfold holds; infer_instance

theorem holds_append {α : Type} (P : α → sProp 𝕄) (l l' : List α) :
    holds P (l ++ l') ⊣⊢ iprop(holds P l ∗ holds P l') := by
  induction l with
  | nil => exact ⟨BIClass.emp_sep.2, BIClass.emp_sep.1⟩
  | cons a l ih => exact ⟨(sep_mono_right ih.1).trans sep_assoc.2, sep_assoc.1.trans (sep_mono_right ih.2)⟩

theorem holds_map {α β : Type} (P : β → sProp 𝕄) (f : α → β) (l : List α) : holds P (l.map f) = holds (fun a => P (f a)) l := by
  induction l with
  | nil => rfl
  | cons a l ih => show iprop(P (f a) ∗ holds P (l.map f)) = _; rw [ih]; rfl

theorem holds_congr {α : Type} {P Q : α → sProp 𝕄} {l : List α} (h : ∀ a ∈ l, P a = Q a) : holds P l = holds Q l := by
  induction l with
  | nil => rfl
  | cons a l ih =>
    show iprop(P a ∗ holds P l) = iprop(Q a ∗ holds Q l)
    rw [h a List.mem_cons_self, ih fun b hb => h b (List.mem_cons_of_mem _ hb)]

theorem holds_mono {α : Type} {P Q : α → sProp 𝕄} {l : List α} (h : ∀ a ∈ l, P a ⊢ Q a) : holds P l ⊢ holds Q l := by
  induction l with
  | nil => exact BI.Entails.refl _
  | cons a l ih => exact BIClass.sep_mono (h a List.mem_cons_self) (ih fun b hb => h b (List.mem_cons_of_mem _ hb))

theorem holds_perm {α : Type} (P : α → sProp 𝕄) {l l' : List α} (h : l.Perm l') : holds P l ⊢ holds P l' := by
  induction h with
  | nil => exact BI.Entails.refl _
  | cons a _ ih => exact sep_mono_right ih
  | swap a b l => exact sep_assoc.2.trans ((sep_mono_left sep_comm.1).trans sep_assoc.1)
  | trans _ _ ih ih' => exact ih.trans ih'

theorem holds_sep {α : Type} (P Q : α → sProp 𝕄) (l : List α) :
    holds (fun a => iprop(P a ∗ Q a)) l ⊢ iprop(holds P l ∗ holds Q l) := by
  induction l with
  | nil => exact BIClass.emp_sep.2
  | cons a l ih =>
    refine (sep_mono_right ih).trans ?_
    show iprop((P a ∗ Q a) ∗ holds P l ∗ holds Q l) ⊢ iprop((P a ∗ holds P l) ∗ Q a ∗ holds Q l)
    iintro ⟨⟨HP, HQ⟩, HPl, HQl⟩
    isplitl [HP HPl]
    · isplitl [HP]
      · iexact HP
      · iexact HPl
    · isplitl [HQ]
      · iexact HQ
      · iexact HQl

/-! ## Cells -/

/-- The semaphore, as the machine names it. -/
def cel : Ce → SemLoc sig
  | .bar => .reg barS
  | .S s => .dma (semS s)
  | .R r => .dma (semR r)

theorem cel_inj : Function.Injective cel := by
  have h : ∀ x y : Ce, cel x = cel y → x = y := by decide +kernel
  exact fun x y => h x y

open Classical in
/-- Which of the protocol's semaphores this is, if any. -/
def ceOf (l : SemLoc sig) : Option Ce := if h : ∃ x, cel x = l then some h.choose else none

theorem ceOf_cel (x : Ce) : ceOf (cel x) = some x := by
  have h : ∃ y, cel y = cel x := ⟨x, rfl⟩
  unfold ceOf
  rw [dif_pos h, cel_inj h.choose_spec]

/-- A cell of device `c`. -/
abbrev gc (c : Dev nD) (x : Ce) : GSem nD τ sig := ((c : Thread nD τ), cel x)

theorem gc_inj {c d : Dev nD} {x y : Ce} (h : gc c x = gc d y) : c = d ∧ x = y :=
  ⟨congrArg (fun g : GSem nD τ sig => g.1.1) h, cel_inj (congrArg (fun g : GSem nD τ sig => g.2) h)⟩

/-- The credit of a landing place. -/
def amt : Ce → ℕ
  | .bar => 1
  | .S s => (dstM s.rc).view.dmaCredit
  | .R r => (dstM r).view.dmaCredit

theorem dst_pos (r : Rc) : 0 < (dstM r).view.dmaCredit := by
  exact View.dmaCredit_pos _ (by revert r; decide)

theorem amt_pos (x : Ce) : 0 < amt x := by
  cases x with
  | bar => exact Nat.one_pos
  | S s => exact dst_pos s.rc
  | R r => exact dst_pos r

/-! ## Shares -/

abbrev shL : PosShare TreeShare := fullShare.left
abbrev shR : PosShare TreeShare := fullShare.right

/-- The share of its source a copy reads through. -/
def shr : Sd → PosShare TreeShare
  | .col i => ![shL.right.left, shL.right.right.left, shL.right.right.right] (kOf i)
  | .af _ _ => shR.left
  | .ab _ _ => shR.right
  | .bf _ => shR
  | .bb _ => shR

variable (X : Blocks F)

/-- The share of its source that a copy reads, lent to it. -/
def lent (c : Dev nD) (s : Sd) : sProp 𝕄 :=
  (srcM s).view.loc (c : Thread nD τ) ↦[(srcM s).view.set]{shr s} srcB X c s

/-- A landing place filled. -/
def full (c : Dev nD) (r : Rc) : sProp 𝕄 :=
  (dstM r).view.loc (c : Thread nD τ) ↦[(dstM r).view.set]{fullShare} dstB X c r

/-- A landing place, whatever it holds. -/
def raw (c : Dev nD) (r : Rc) : sProp 𝕄 :=
  iprop(∃ f : Buf (Elt F) ((dstM r).view.loc (c : Thread nD τ)), (dstM r).view.loc (c : Thread nD τ) ↦[(dstM r).view.set]{fullShare} f)

instance lent_storable (c : Dev nD) (s : Sd) : BI.Storable (upEmb : UEmb _ 𝕄) (lent X c s) := by unfold lent; infer_instance
instance full_storable (c : Dev nD) (r : Rc) : BI.Storable (upEmb : UEmb _ 𝕄) (full X c r) := by unfold full; infer_instance
instance raw_storable (c : Dev nD) (r : Rc) : BI.Storable (upEmb : UEmb _ 𝕄) (raw (F := F) c r) := by unfold raw; infer_instance

/-! ## The rounds -/

/-- The contributions of a cell's round. -/
def dutiesOf (c : Dev nD) : Ce → Finset (Fin 5)
  | .bar => Finset.univ
  | .S s => if active (row c) s then {0} else ∅
  | .R _ => {0}

/-- What a contribution hands over. -/
def payOf (c : Dev nD) : Ce → Fin 5 → sProp 𝕄
  | .bar, j => holds (raw (giver j c)) (slotsOf j)
  | .S s, _ => lent X c s
  | .R r, _ => full X c r

instance payOf_storable (c : Dev nD) (x : Ce) (d : Fin 5) : BI.Storable (upEmb : UEmb _ 𝕄) (payOf X c x d) := by
  cases x <;> (unfold payOf; infer_instance)

/-- The kernel's rounds. -/
def Rd : Rounds.Schedule (GSem nD τ sig) (Fin 5) 𝕄 where
  duties g r := if r = 0 then (match ceOf g.2 with | some x => dutiesOf g.1.1 x | none => ∅) else ∅
  unitless _ := False
  amount g _ _ := match ceOf g.2 with | some x => amt x | none => 1
  payload g _ d := match ceOf g.2 with | some x => payOf X g.1.1 x d | none => iprop(emp)
  amount_pos g _ _ _ := by
    show 0 < (match ceOf g.2 with | some x => amt x | none => 1)
    split
    · exact amt_pos _
    · exact Nat.one_pos

instance Rd_storable (g : GSem nD τ sig) (r : ℕ) (d : Fin 5) : BI.Storable (upEmb : UEmb _ 𝕄) ((Rd X).payload g r d) := by
  show BI.Storable upEmb (match ceOf g.2 with | some x => payOf X g.1.1 x d | none => iprop(emp))
  split <;> infer_instance

theorem duties_gc (c : Dev nD) (x : Ce) : (Rd X).duties (gc c x) 0 = dutiesOf c x := by
  show (if (0 : ℕ) = 0 then (match ceOf (cel x) with | some x => dutiesOf c x | none => ∅) else ∅) = _
  rw [if_pos rfl, ceOf_cel]

theorem duties_later (g : GSem nD τ sig) : ∀ r, 1 ≤ r → (Rd X).duties g r = ∅ := fun r hr => by
  show (if r = 0 then (match ceOf g.2 with | some x => dutiesOf g.1.1 x | none => ∅) else ∅) = _
  rw [if_neg (by omega)]

theorem amount_gc (c : Dev nD) (x : Ce) (d : Fin 5) : (Rd X).amount (gc c x) 0 d = amt x := by
  show (match ceOf (cel x) with | some x => amt x | none => 1) = _
  rw [ceOf_cel]

theorem payload_gc (c : Dev nD) (x : Ce) (d : Fin 5) : (Rd X).payload (gc c x) 0 d = payOf X c x d := by
  show (match ceOf (cel x) with | some x => payOf X c x d | none => iprop(emp)) = _
  rw [ceOf_cel]

theorem expect_bar (c : Dev nD) : (Rd X).expect (gc c .bar) 0 = 5 := by
  unfold Schedule.expect Schedule.amountOf
  rw [duties_gc, Finset.sum_congr rfl fun d _ => amount_gc X c .bar d]
  rfl

theorem expect_S (c : Dev nD) (s : Sd) (h : active (row c) s = true) : (Rd X).expect (gc c (.S s)) 0 = amt (.S s) := by
  unfold Schedule.expect Schedule.amountOf
  rw [duties_gc, dutiesOf, if_pos h, Finset.sum_singleton, amount_gc]

theorem expect_R (c : Dev nD) (r : Rc) : (Rd X).expect (gc c (.R r)) 0 = amt (.R r) := by
  unfold Schedule.expect Schedule.amountOf
  rw [duties_gc, dutiesOf, Finset.sum_singleton, amount_gc]

theorem rest_S (c : Dev nD) (s : Sd) (h : active (row c) s = true) :
    bigSep ((Rd X).duties (gc c (.S s)) 0 \ ∅) (fun d => (Rd X).payload (gc c (.S s)) 0 d) = lent X c s := by
  rw [Finset.sdiff_empty, duties_gc, dutiesOf, if_pos h, bigSep_singleton, payload_gc]; rfl

theorem rest_R (c : Dev nD) (r : Rc) :
    bigSep ((Rd X).duties (gc c (.R r)) 0 \ ∅) (fun d => (Rd X).payload (gc c (.R r)) 0 d) = full X c r := by
  rw [Finset.sdiff_empty, duties_gc, dutiesOf, bigSep_singleton, payload_gc]; rfl

/-- The slots a device may fill, in the words of the slots' owners. -/
theorem given_holds (c : Dev nD) (j : Fin 5) :
    holds (raw (F := F) (giver j c)) (slotsOf j) = holds (fun s : Sd => raw (F := F) (tgt s c) s.rc) (given (row c) j) := by
  have h := given_rc (rowF c) j
  rw [← h, holds_map]
  exact holds_congr fun s hs => by rw [given_tgt j c s hs]

theorem rest_bar (c : Dev nD) :
    bigSep ((Rd X).duties (gc c .bar) 0 \ ∅) (fun d => (Rd X).payload (gc c .bar) 0 d)
      ⊢ holds (fun s : Sd => raw (F := F) (tgt s c) s.rc)
          (given (row c) 0 ++ given (row c) 1 ++ given (row c) 2 ++ given (row c) 3 ++ given (row c) 4) := by
  rw [Finset.sdiff_empty, duties_gc, dutiesOf, bigSep_univ_eq_bigSepL [0, 1, 2, 3, 4] (by decide) (by decide),
    bigSepL_cons_cons, bigSepL_cons_cons, bigSepL_cons_cons, bigSepL_cons_cons, bigSepL_singleton,
    payload_gc, payload_gc, payload_gc, payload_gc, payload_gc]
  simp only [payOf]
  rw [given_holds, given_holds, given_holds, given_holds, given_holds]
  generalize hG : given (row c) = G
  generalize (fun s : Sd => raw (F := F) (tgt s c) s.rc) = P
  show iprop(holds P (G 0) ∗ holds P (G 1) ∗ holds P (G 2) ∗ holds P (G 3) ∗ holds P (G 4)) ⊢ _
  iintro ⟨H0, H1, H2, H3, H4⟩
  iapply (holds_append _ _ _).2
  isplitr [H4]
  · iapply (holds_append _ _ _).2
    isplitr [H3]
    · iapply (holds_append _ _ _).2
      isplitr [H2]
      · iapply (holds_append _ _ _).2
        isplitl [H0] <;> iassumption
      · iassumption
    · iassumption
  · iassumption

/-! ## Debts and the order of waits -/

/-- The cell a debt of device `c` is owed to. -/
def dcell (c : Dev nD) : Dt → GSem nD τ sig
  | .bar j => gc (sigDev j c) .bar
  | .snd s => gc (tgt s c) (.R s.rc)

/-- The tallies of a list of debts. -/
def owe (c : Dev nD) : List Dt → CellTallies nD τ sig Unit
  | [] => 0
  | d :: l => owe c l + tallyAt (dcell c d) () (amt d.ce)

def L (g : GSem nD τ sig) : Finset Unit := if g.1.2 = .tc then {()} else ∅
def lv (g : GSem nD τ sig) (_ : Unit) : ℕ := match ceOf g.2 with | some x => lvl x | none => 0

theorem L_of_ne (g : GSem nD τ sig) (h : g.1.2 ≠ .tc) : L g = ∅ := if_neg h
theorem L_tc (c : Dev nD) (sm : SemLoc sig) : L ((c : Thread nD τ), sm) = {()} := if_pos rfl

theorem lv_gc (c : Dev nD) (x : Ce) (u : Unit) : lv (gc c x) u = lvl x := by
  show (match ceOf (cel x) with | some x => lvl x | none => 0) = _
  rw [ceOf_cel]

theorem lv_dcell (c : Dev nD) (d : Dt) (u : Unit) : lv (dcell c d) u = lvl d.ce := by
  cases d <;> exact lv_gc _ _ u

theorem L_dcell (c : Dev nD) (d : Dt) (u : Unit) : u ∈ L (dcell c d) := by
  cases d <;> (show u ∈ L ((_ : Thread nD τ), _); rw [L_tc]; exact Finset.mem_singleton_self _)

theorem owe_pos {c : Dev nD} {l : List Dt} {g : GSem nD τ sig} {u : Unit} (h : 0 < owe c l g u) :
    ∃ d ∈ l, g = dcell c d := by
  induction l with
  | nil => exact absurd h (Nat.lt_irrefl 0)
  | cons d l ih =>
    by_cases hg : g = dcell c d
    · exact ⟨d, List.mem_cons_self, hg⟩
    · have : 0 < owe c l g u := by
        unfold owe at h
        rw [Pi.add_apply, Finsupp.add_apply, tallyAt_apply, if_neg fun h' => hg h'.1] at h
        exact h
      obtain ⟨d', hd', e⟩ := ih this
      exact ⟨d', List.mem_cons_of_mem _ hd', e⟩

theorem mayWait_lev (c : Dev nD) (sm : SemLoc sig) (n : ℕ) (hn : lv ((c : Thread nD τ), sm) () = n) (l : List Dt)
    (h : ∀ d ∈ l, n < lvl d.ce) : (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨d, hd, rfl⟩ := owe_pos hg; exact L_dcell c d u)
    (fun p hp => by rw [Finset.mem_singleton.mp hp]; exact le_of_eq hn)
    (fun g u hg => by obtain ⟨d, hd, rfl⟩ := owe_pos hg; rw [lv_dcell]; exact h d hd)

theorem mayWait_gc (c : Dev nD) (x : Ce) (l : List Dt) (h : ∀ d ∈ l, lvl x < lvl d.ce) :
    (levAts L lv : sProp 𝕄) ⊢ MayWait (c : Thread nD τ) (cel x) () (owe c l) :=
  mayWait_lev c (cel x) (lvl x) (lv_gc c x ()) l h

/-! ## What the tokens stand for -/

/-- A share kept for reading. -/
def kept (c : Dev nD) : Pc → sProp 𝕄
  | .x => (xM.view.loc (c : Thread nD τ)) ↦[Finset.univ]{shL.left} xB X c
  | .col k => (colM k).view.loc (c : Thread nD τ) ↦[(colM k).view.set]{shL} colB X c
  | .pf i h => (pfH i h).view.loc (c : Thread nD τ) ↦[(pfH i h).view.set]{shL} pfB X c
  | .pb i h => (pbH i h).view.loc (c : Thread nD τ) ↦[(pbH i h).view.set]{shL} pbB X c
  | .hf i => (hfS i).view.loc (c : Thread nD τ) ↦[(hfS i).view.set]{fullShare} hfB X c
  | .hb i => (hbS i).view.loc (c : Thread nD τ) ↦[(hbS i).view.set]{fullShare} hbB X c
  | .pfR i => (pfH i 1).view.loc (c : Thread nD τ) ↦[(pfH i 1).view.set]{shR} pfB X c
  | .pbR i => (pbH i 0).view.loc (c : Thread nD τ) ↦[(pbH i 0).view.set]{shR} pbB X c

/-- The resource behind a token of device `c`. -/
def res (c : Dev nD) : Tok → sProp 𝕄
  | .sigd j => iprop(dutyTok ER (gc (sigDev j c) .bar) 0 j ∗ holds (raw c) (slotsOf j))
  | .atBar => iprop(cred (tallyAt (gc c .bar) () 5) ∗ atPos ER (gc c .bar) 0 ∅ 0)
  | .don x => iprop(∃ R, ⌜∀ r, R ≤ r → (Rd X).duties (gc c x) r = ∅⌝ ∗ atPos ER (gc c x) R ∅ 0)
  | .rdy s => iprop(dutyTok ER (gc c (.S s)) 0 0 ∗ dutyTok ER (gc (tgt s c) (.R s.rc)) 0 0 ∗ atPos ER (gc c (.S s)) 0 ∅ 0)
  | .dst s => raw (tgt s c) s.rc
  | .src s => lent X c s
  | .fly s => iprop(cred (tallyAt (gc c (.S s)) () (amt (.S s))) ∗ atPos ER (gc c (.S s)) 0 ∅ 0)
  | .exp r => iprop(cred (tallyAt (gc c (.R r)) () (amt (.R r))) ∗ atPos ER (gc c (.R r)) 0 ∅ 0)
  | .keep p => kept X c p

/-- Every cell's invariant, under the names `K`, and every cell's first round begun. -/
def records (K : Dev nD × Ce → ℕ) : sProp 𝕄 :=
  bigSep Finset.univ fun cx : Dev nD × Ce =>
    iprop(cellInv ER (Rd X) (K cx) (gc cx.1 cx.2) ∗ reached ER (gc cx.1 cx.2) 0)

instance records_persistent (K : Dev nD × Ce → ℕ) : BI.Persistent (records X K) := by unfold records; infer_instance

theorem records_at (K : Dev nD × Ce → ℕ) (c : Dev nD) (x : Ce) :
    records X K ⊢ iprop(cellInv ER (Rd X) (K (c, x)) (gc c x) ∗ reached ER (gc c x) 0) :=
  bigSep_elim (Finset.mem_univ (c, x))

/-- What a device owes, whatever it has waited on so far. -/
def ow (c : Dev nD) (l : List Dt) : sProp 𝕄 := iprop(∃ W, owes (c : Thread nD τ) (owe c l) W)

end Cert.Run
-- ==== Proof.Pieces.lean ====
/-
# Landing places taken apart

A column slot is read whole by its product and by halves by the copies along the row. A row slot is
read whole by its product, and one half of it by the copy that passes it on. This module splits what a
landing hands over into those shares.
-/
module

public import proofs.«01_k».proof.Proof.Sched
public import Idealize.ShloMosaic.Lib.Exec.Geometry

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Which elements -/

theorem mem_col (k : Fin 3) (i : S3x128x2048.Idx) :
    i ∈ (colM k).view.set ↔ (i 0).val = k.val ∧ 0 ≤ (i 1).val ∧ (i 1).val < 0 + 128 :=
  (Finset.ext_iff.1 ((Memref.set_view_squeeze _ _).trans (View.set_slice_whole cc0_scratch0 _)) i).trans (mem_rect3 k.val 0 (inbC k))

theorem mem_colH (k : Fin 3) (h : Fin 2) (i : S3x128x2048.Idx) :
    i ∈ (colH k h).view.set ↔ (i 0).val = k.val ∧ 64 * h.val ≤ (i 1).val ∧ (i 1).val < 64 * h.val + 64 :=
  (Finset.ext_iff.1 ((Memref.set_view_squeeze _ _).trans (View.set_slice_whole cc0_scratch0 _)) i).trans
    (mem_rect3 k.val (64 * h.val) (inbCh k h))

theorem mem_pfH (i : Fin 4) (h : Fin 2) (j : S4x128x2048.Idx) :
    j ∈ (pfH i h).view.set ↔ (j 0).val = i.val ∧ 64 * h.val ≤ (j 1).val ∧ (j 1).val < 64 * h.val + 64 :=
  (Finset.ext_iff.1 ((Memref.set_view_squeeze _ _).trans (View.set_slice_whole cc0_scratch1 _)) j).trans
    (mem_rect3 i.val (64 * h.val) (inbPh i h))

theorem mem_pbH (i : Fin 4) (h : Fin 2) (j : S4x128x2048.Idx) :
    j ∈ (pbH i h).view.set ↔ (j 0).val = i.val ∧ 64 * h.val ≤ (j 1).val ∧ (j 1).val < 64 * h.val + 64 :=
  (Finset.ext_iff.1 ((Memref.set_view_squeeze _ _).trans (View.set_slice_whole cc0_scratch2 _)) j).trans
    (mem_rect3 i.val (64 * h.val) (inbPh i h))

theorem mem_hf (i : Fin 4) (j : S4x64x2048.Idx) :
    j ∈ (hfS i).view.set ↔ (j 0).val = i.val ∧ 0 ≤ (j 1).val ∧ (j 1).val < 0 + 64 :=
  (Finset.ext_iff.1 ((Memref.set_view_squeeze _ _).trans (View.set_slice_whole cc0_scratch3 _)) j).trans
    (mem_rect3 i.val 0 (inbH i))

theorem mem_hb (i : Fin 4) (j : S4x64x2048.Idx) :
    j ∈ (hbS i).view.set ↔ (j 0).val = i.val ∧ 0 ≤ (j 1).val ∧ (j 1).val < 0 + 64 :=
  (Finset.ext_iff.1 ((Memref.set_view_squeeze _ _).trans (View.set_slice_whole cc0_scratch4 _)) j).trans
    (mem_rect3 i.val 0 (inbH i))

theorem mem_xH (h : Fin 2) (i : S128x2048.Idx) :
    i ∈ (xH h).view.set ↔ 64 * h.val ≤ (i 0).val ∧ (i 0).val < 64 * h.val + 64 := by
  refine (Finset.ext_iff.1 (View.set_slice_whole cc0_stg0_0 _) i).trans ?_
  rw [Rect.mem_set_unit]
  constructor
  · exact fun hh => hh 0
  · intro e x
    fin_cases x
    · exact e
    · show 0 ≤ (i 1).val ∧ (i 1).val < 0 + 2048
      have := (i 1).isLt
      exact ⟨Nat.zero_le _, by rw [Nat.zero_add]; exact this⟩

theorem col_halves (k : Fin 3) : (colM k).view.set = (colH k 0).view.set ∪ (colH k 1).view.set := by
  ext i
  have h1 := mem_col k i; have h2 := mem_colH k 0 i; have h3 := mem_colH k 1 i
  refine h1.trans ((?_ : _ ↔ _).trans Finset.mem_union.symm)
  rw [h2, h3]
  simp only [Fin.val_zero, Fin.val_one]
  omega

theorem col_disj (k : Fin 3) : Disjoint (colH k 0).view.set (colH k 1).view.set := by
  refine Finset.disjoint_left.2 fun i h h' => ?_
  have h2 := ((mem_colH k 0 i).1 h).2; have h3 := ((mem_colH k 1 i).1 h').2
  simp only [Fin.val_zero, Fin.val_one] at h2 h3
  omega

theorem x_halves : (Finset.univ : Finset S128x2048.Idx) = (xH 0).view.set ∪ (xH 1).view.set := by
  ext i
  have h2 := mem_xH 0 i; have h3 := mem_xH 1 i
  have hi : (i 0).val < 128 := (i 0).isLt
  refine (iff_of_true (Finset.mem_univ i) ?_)
  refine Finset.mem_union.2 ?_
  rw [h2, h3]
  simp only [Fin.val_zero, Fin.val_one]
  omega

theorem x_disj : Disjoint (xH 0).view.set (xH 1).view.set := by
  refine Finset.disjoint_left.2 fun i h h' => ?_
  have h2 := (mem_xH 0 i).1 h; have h3 := (mem_xH 1 i).1 h'
  simp only [Fin.val_zero, Fin.val_one] at h2 h3
  omega

/-! ## Splitting -/

theorem share_split {ℓ : Loc nD τ sig} (S : Finset (Idx ℓ)) (q : PosShare TreeShare) (f : Buf (Elt F) ℓ) :
    (ℓ ↦[S]{q} f : sProp 𝕄) ⊣⊢ iprop((ℓ ↦[S]{q.left} f) ∗ (ℓ ↦[S]{q.right} f)) :=
  pointsTo_share (PosShare.mem_left_op_right q)

variable (X : Blocks F)

theorem lent_af (c : Dev nD) (k : Fin 3) (h : Fin 2) :
    lent X c (.af k.succ h) = (cM.view.loc (c : Thread nD τ) ↦[(colH k h).view.set]{shR.left} colB X c : sProp 𝕄) := by
  unfold lent
  match k with
  | 0 => rfl
  | 1 => rfl
  | 2 => rfl

theorem lent_ab (c : Dev nD) (k : Fin 3) (h : Fin 2) :
    lent X c (.ab k.succ h) = (cM.view.loc (c : Thread nD τ) ↦[(colH k h).view.set]{shR.right} colB X c : sProp 𝕄) := by
  unfold lent
  match k with
  | 0 => rfl
  | 1 => rfl
  | 2 => rfl

/-- A column slot by halves, each lent to a copy each way along the row. -/
theorem col_lent (c : Dev nD) (k : Fin 3) :
    ((colM k).view.loc (c : Thread nD τ) ↦[(colM k).view.set]{shR} colB X c : sProp 𝕄)
      ⊣⊢ iprop(lent X c (.af k.succ 0) ∗ lent X c (.af k.succ 1) ∗ lent X c (.ab k.succ 0) ∗ lent X c (.ab k.succ 1)) := by
  have key : ((colM k).view.loc (c : Thread nD τ) ↦[(colM k).view.set]{shR} colB X c : sProp 𝕄)
      ⊣⊢ iprop(((cM.view.loc (c : Thread nD τ) ↦[(colH k 0).view.set]{shR.left} colB X c)
          ∗ (cM.view.loc (c : Thread nD τ) ↦[(colH k 1).view.set]{shR.left} colB X c))
        ∗ (cM.view.loc (c : Thread nD τ) ↦[(colH k 0).view.set]{shR.right} colB X c)
          ∗ (cM.view.loc (c : Thread nD τ) ↦[(colH k 1).view.set]{shR.right} colB X c)) := by
    refine (share_split _ _ _).trans ?_
    have h := col_halves k
    have e : ∀ q : PosShare TreeShare, (cM.view.loc (c : Thread nD τ) ↦[(colM k).view.set]{q} colB X c : sProp 𝕄)
        ⊣⊢ iprop((cM.view.loc (c : Thread nD τ) ↦[(colH k 0).view.set]{q} colB X c)
          ∗ (cM.view.loc (c : Thread nD τ) ↦[(colH k 1).view.set]{q} colB X c)) := fun q => by
      rw [show (colM k).view.set = (colH k 0).view.set ∪ (colH k 1).view.set from h]
      exact pointsTo_union (ℓ := cM.view.loc (c : Thread nD τ)) (col_disj k)
    exact ⟨BIClass.sep_mono (e _).1 (e _).1, BIClass.sep_mono (e _).2 (e _).2⟩
  rw [lent_af, lent_af, lent_ab, lent_ab]
  exact ⟨key.1.trans sep_assoc.1, sep_assoc.2.trans key.2⟩

/-- What a landing hands over, taken apart. -/
theorem full_pieces (c : Dev nD) (r : Rc) : full X c r ⊢ holds (res X c) (pieces r) := by
  cases r with
  | col k =>
    show _ ⊢ iprop(kept X c (.col k) ∗ lent X c (.af k.succ 0) ∗ lent X c (.af k.succ 1) ∗ lent X c (.ab k.succ 0)
      ∗ lent X c (.ab k.succ 1) ∗ emp)
    refine (share_split _ _ _).1.trans (sep_mono_right ?_)
    refine (col_lent X c k).1.trans ?_
    iintro ⟨H1, H2, H3, H4⟩
    isplitl [H1]; · iexact H1
    isplitl [H2]; · iexact H2
    isplitl [H3]; · iexact H3
    isplitl [H4]; · iexact H4
    iempintro
  | af i h =>
    match h with
    | 0 =>
      show _ ⊢ iprop(kept X c (.pf i 0) ∗ lent X c (.bf i) ∗ emp)
      exact (share_split _ _ _).1.trans (sep_mono_right (sep_emp (PROP := sProp 𝕄)).2)
    | 1 =>
      show _ ⊢ iprop(kept X c (.pf i 1) ∗ kept X c (.pfR i) ∗ emp)
      exact (share_split _ _ _).1.trans (sep_mono_right (sep_emp (PROP := sProp 𝕄)).2)
  | ab i h =>
    match h with
    | 0 =>
      show _ ⊢ iprop(kept X c (.pb i 0) ∗ kept X c (.pbR i) ∗ emp)
      exact (share_split _ _ _).1.trans (sep_mono_right (sep_emp (PROP := sProp 𝕄)).2)
    | 1 =>
      show _ ⊢ iprop(kept X c (.pb i 1) ∗ lent X c (.bb i) ∗ emp)
      exact (share_split _ _ _).1.trans (sep_mono_right (sep_emp (PROP := sProp 𝕄)).2)
  | bf i => exact (sep_emp (PROP := sProp 𝕄)).2
  | bb i => exact (sep_emp (PROP := sProp 𝕄)).2

end Cert.Run
-- ==== Proof.Comm.lean ====
/-
# The acts that communicate

One lemma for each kind of act that signals, waits or copies: from the tokens it uses and the debts
left, it makes the tokens the plan says, and the program goes on.
-/
module

public import proofs.«01_k».proof.Proof.Pieces
public import Idealize.ShloMosaic.Lib.Tactic

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The program `p` of device `c` ends in `Q`. -/
abbrev WP {α : Type} (c : Dev nD) (p : KP (F := F) α) (Q : α → sProp 𝕄) : sProp 𝕄 :=
  wp frame (wpE (defs₀ (F := F)) 𝒱₀ (c : Thread nD τ) none) Set.univ p Q

/-! ## The programs, uniformly -/

theorem send_prog {α : Type} (n : Dev nD) (s : Sd) (k : PUnit → KP (F := F) α) :
    (sendP n s).bind k = .op (.enqueueDma (srcM s) (.remote (Dev.tc n) (dstM s.rc) (.dma (semS s))) (.dma (semR s.rc))
      (weSrc s) (weDst s.rc) ⟨⟨rfl, Or.inl rfl⟩, trivial⟩) k := by
  cases s <;> rfl

theorem waitR_prog {α : Type} (r : Rc) (k : PUnit → KP (F := F) α) :
    ∃ (m : Memref sig .tc .vmem r.shp .bf16) (hm : m.view.WordExact),
      (waitRP r).bind k = .op (.waitDma2 (semR r) m (dstM r) hm (weDst r)) k := by
  cases r <;> exact ⟨_, _, rfl⟩

theorem waitS_prog {α : Type} (s : Sd) (k : PUnit → KP (F := F) α) :
    ∃ (m : Memref sig .tc .vmem s.rc.shp .bf16) (hm : m.view.WordExact),
      (waitSP s).bind k = .op (.waitDma2 (semS s) m (srcM s) hm (weSrc s)) k := by
  cases s <;> exact ⟨_, _, rfl⟩

theorem src_credit (s : Sd) : (srcM s).view.dmaCredit = amt (.S s) := by
  cases s with
  | col i => rfl
  | af i h => match i with | 0 => rfl | 1 => rfl | 2 => rfl | 3 => rfl
  | ab i h => match i with | 0 => rfl | 1 => rfl | 2 => rfl | 3 => rfl
  | bf i => rfl
  | bb i => rfl

variable (X : Blocks F) (K : Dev nD × Ce → ℕ) (c : Dev nD)

/-- The cells' records and the order of waits. -/
abbrev ctx : sProp 𝕄 := iprop(records X K ∗ levAts L lv)

/-! ## One lemma for each kind -/

theorem step_sig {α : Type} (j : Fin 5) (n : Dev nD) (hn : n = sigDev j c) (l : List Dt) (k : PUnit → KP (F := F) α)
    (Q : α → sProp 𝕄) :
    iprop(ctx X K ∗ holds (res X c) (uses (.sig j)) ∗ ow c (.bar j :: l))
      ⊢ iprop(((holds (res X c) (makes (row c) (.sig j)) ∗ ow c l) -∗ WP c (k ⟨⟩) Q)
          -∗ WP c ((semSignalWord n barS 1#32).bind k) Q) := by
  subst hn
  have hprog : (semSignalWord (sigDev j c) barS 1#32 : KP (F := F) PUnit).bind k
      = .op (.semSignal (sigDev j c : Thread nD τ) barS 1) k := rfl
  rw [hprog]
  show iprop(ctx X K ∗ (((dutyTok ER (gc (sigDev j c) .bar) 0 j ∗ holds (raw c) (slotsOf j)) ∗ emp) ∗ ow c (.bar j :: l))) ⊢ _
  unfold ow
  iintro ⟨⟨#Hr, #Hl⟩, ⟨⟨Htok, Hraw⟩, -⟩, ⟨%W, HO⟩⟩ Hk
  ihave HI := (records_at X K (sigDev j c) .bar) $$ Hr
  icases HI with ⟨#HI, #HR⟩
  iapply (Rounds.wp_signal 𝒱₀ ER (Rd X) (c : Thread nD τ) none (dst := (sigDev j c : Thread nD τ)) (κ := K (sigDev j c, .bar))
      (r := 0) (d := j) (by rw [show ((sigDev j c : Thread nD τ), SemLoc.reg barS) = gc (sigDev j c) .bar from rfl, duties_gc]; exact Finset.mem_univ _)
      ((amount_gc X (sigDev j c) .bar j).trans (by rfl)) () (owe c l) rfl) $$ [HO Htok Hraw]
  · isplitr; · iexact HI
    isplitl [HO]; · iexact HO
    isplitl [Htok]; · iexact Htok
    isplitl [Hraw]
    · rw [show ((sigDev j c : Thread nD τ), SemLoc.reg barS) = gc (sigDev j c) .bar from rfl, payload_gc]
      simp only [payOf]
      rw [giver_sigDev]
      iexact Hraw
    · iexact HR
  iintro HO
  iapply Hk
  isplitr [HO]
  · rw [show holds (res X c) (makes (row c) (.sig j)) = iprop(emp) from rfl]
    iempintro
  · iexists W; iexact HO

theorem step_send {α : Type} (s : Sd) (n : Dev nD) (hn : n = tgt s c) (ha : active (row c) s = true) (l : List Dt)
    (k : PUnit → KP (F := F) α) (Q : α → sProp 𝕄) :
    iprop(ctx X K ∗ holds (res X c) (uses (.send s)) ∗ ow c (.snd s :: l))
      ⊢ iprop(((holds (res X c) (makes (row c) (.send s)) ∗ ow c l) -∗ WP c (k ⟨⟩) Q)
          -∗ WP c ((sendP n s).bind k) Q) := by
  have hl := landed X s c n hn
  subst hn
  rw [send_prog]
  show iprop(ctx X K ∗ (((dutyTok ER (gc c (.S s)) 0 0 ∗ dutyTok ER (gc (tgt s c) (.R s.rc)) 0 0 ∗ atPos ER (gc c (.S s)) 0 ∅ 0)
    ∗ lent X c s ∗ raw (tgt s c) s.rc ∗ emp) ∗ ow c (.snd s :: l))) ⊢ _
  unfold ow raw
  iintro ⟨⟨#Hr, #Hl⟩, ⟨⟨HtS, HtR, Hat⟩, Hsrc, ⟨%fd, Hdst⟩, -⟩, ⟨%W, HO⟩⟩ Hk
  ihave HI := (records_at X K c (.S s)) $$ Hr
  icases HI with ⟨#HI1, #HR1⟩
  ihave HI := (records_at X K (tgt s c) (.R s.rc)) $$ Hr
  icases HI with ⟨#HI2, #HR2⟩
  unfold lent
  iapply (Rounds.wp_send_pointsTo 𝒱₀ ER (Rd X) (c : Thread nD τ) none (κ₁ := K (c, .S s)) (κ₂ := K (tgt s c, .R s.rc))
      (r₁ := 0) (r₂ := 0) (d₁ := 0) (d₂ := 0) (fd := fd) (sS := cel (.S s)) (sem := cel (.R s.rc))
      (by rw [duties_gc, dutiesOf, if_pos ha]; exact Finset.mem_singleton_self _)
      (by rw [show ((Dev.tc (tgt s c) : Thread nD τ), cel (.R s.rc)) = gc (tgt s c) (.R s.rc) from rfl, duties_gc]; exact Finset.mem_singleton_self _)
      () () (amt (.R s.rc)) rfl (amount_gc X c (.S s) 0) (amount_gc X (tgt s c) (.R s.rc) 0) (owe c l) rfl (W := W)
      (by rw [payload_gc]; exact BI.Entails.refl _)
      (by
        rw [show ((Dev.tc (tgt s c) : Thread nD τ), cel (.R s.rc)) = gc (tgt s c) (.R s.rc) from rfl, payload_gc]
        unfold payOf full
        exact Entails.of_eq (pointsTo_congr (hl fd)))) $$ [Hsrc Hdst HO HtS HtR]
  · isplitr; · iexact HI1
    isplitr; · iexact HI2
    isplitl [Hsrc]; · iexact Hsrc
    isplitl [Hdst]; · iexact Hdst
    isplitl [HO]; · iexact HO
    isplitl [HtS]; · iexact HtS
    isplitr; · iexact HR1
    isplitl [HtR]; · iexact HtR
    iexact HR2
  iintro ⟨HC, HO⟩
  iapply Hk
  isplitr [HO]
  · rw [show holds (res X c) (makes (row c) (.send s)) = iprop((cred (tallyAt (gc c (.S s)) () (amt (.S s))) ∗ atPos ER (gc c (.S s)) 0 ∅ 0) ∗ emp) from rfl]
    isplitl
    · isplitl [HC]
      · iexact HC
      · iexact Hat
    · iempintro
  · iexists W; iexact HO

theorem step_waitR {α : Type} (r : Rc) (l : List Dt) (hl : ∀ d ∈ l, lvl (.R r) < lvl d.ce) (k : PUnit → KP (F := F) α)
    (Q : α → sProp 𝕄) :
    iprop(ctx X K ∗ holds (res X c) (uses (.waitR r)) ∗ ow c l)
      ⊢ iprop(((holds (res X c) (makes (row c) (.waitR r)) ∗ ow c l) -∗ WP c (k ⟨⟩) Q)
          -∗ WP c ((waitRP r).bind k) Q) := by
  obtain ⟨m, hm, hprog⟩ := waitR_prog (F := F) r k
  rw [hprog]
  show iprop(ctx X K ∗ (((cred (tallyAt (gc c (.R r)) () (amt (.R r))) ∗ atPos ER (gc c (.R r)) 0 ∅ 0) ∗ emp) ∗ ow c l)) ⊢ _
  unfold ow
  iintro ⟨⟨#Hr, #Hl⟩, ⟨⟨HC, Hat⟩, -⟩, ⟨%W, HO⟩⟩ Hk
  ihave HI := (records_at X K c (.R r)) $$ Hr
  icases HI with ⟨#HI, #HR⟩
  iapply (Rounds.wp_wait_rest_token 𝒱₀ ER (Rd X) (c : Thread nD τ) none (κ := K (c, .R r)) (sm := cel (.R r))
      (wpE_waitDma2_eq 𝒱₀ (c : Thread nD τ) none Set.univ) (Set.mem_univ _) () (O := owe c l) (W := W) (R := 0) (m := 0) (T := ∅)
      (by rw [Nat.zero_add, expect_R]; rfl)) $$ [HC HO Hat]
  · isplitr; · iexact HI
    isplitl [HC]; · iexact HC
    isplitl [HO]; · iexact HO
    isplitr; · iapply (mayWait_gc c (.R r) l hl); iexact Hl
    iexact Hat
  iintro ⟨HO, Hat, -, Hpay⟩
  ihave Hp := ((Entails.of_eq (rest_R X c r)).trans (full_pieces X c r)) $$ Hpay
  iapply Hk
  isplitr [HO]
  · rw [show holds (res X c) (makes (row c) (.waitR r)) = iprop((∃ R, ⌜∀ n, R ≤ n → (Rd X).duties (gc c (.R r)) n = ∅⌝ ∗ atPos ER (gc c (.R r)) R ∅ 0) ∗ holds (res X c) (pieces r)) from rfl]
    isplitl [Hat]
    · iexists (0 + 1)
      isplitr; · (ipureintro; exact duties_later X _)
      iexact Hat
    · iexact Hp
  · iexists _; iexact HO

theorem step_waitS {α : Type} (s : Sd) (ha : active (row c) s = true) (l : List Dt) (hl : ∀ d ∈ l, lvl (.S s) < lvl d.ce)
    (k : PUnit → KP (F := F) α) (Q : α → sProp 𝕄) :
    iprop(ctx X K ∗ holds (res X c) (uses (.waitS s)) ∗ ow c l)
      ⊢ iprop(((holds (res X c) (makes (row c) (.waitS s)) ∗ ow c l) -∗ WP c (k ⟨⟩) Q)
          -∗ WP c ((waitSP s).bind k) Q) := by
  obtain ⟨m, hm, hprog⟩ := waitS_prog (F := F) s k
  rw [hprog]
  show iprop(ctx X K ∗ (((cred (tallyAt (gc c (.S s)) () (amt (.S s))) ∗ atPos ER (gc c (.S s)) 0 ∅ 0) ∗ emp) ∗ ow c l)) ⊢ _
  unfold ow
  iintro ⟨⟨#Hr, #Hl⟩, ⟨⟨HC, Hat⟩, -⟩, ⟨%W, HO⟩⟩ Hk
  ihave HI := (records_at X K c (.S s)) $$ Hr
  icases HI with ⟨#HI, #HR⟩
  iapply (Rounds.wp_wait_rest_token 𝒱₀ ER (Rd X) (c : Thread nD τ) none (κ := K (c, .S s)) (sm := cel (.S s)) (k' := amt (.S s))
      (fun K' => (wpE_waitDma2_eq 𝒱₀ (c : Thread nD τ) none Set.univ K').trans (by rw [src_credit]; rfl)) (Set.mem_univ _) () (O := owe c l) (W := W) (R := 0) (m := 0) (T := ∅)
      (by rw [Nat.zero_add, expect_S X c s ha])) $$ [HC HO Hat]
  · isplitr; · iexact HI
    isplitl [HC]; · iexact HC
    isplitl [HO]; · iexact HO
    isplitr; · iapply (mayWait_gc c (.S s) l hl); iexact Hl
    iexact Hat
  iintro ⟨HO, Hat, -, Hpay⟩
  ihave Hp := (Entails.of_eq (rest_S X c s ha)) $$ Hpay
  iapply Hk
  isplitr [HO]
  · rw [show holds (res X c) (makes (row c) (.waitS s)) = iprop((∃ R, ⌜∀ n, R ≤ n → (Rd X).duties (gc c (.S s)) n = ∅⌝ ∗ atPos ER (gc c (.S s)) R ∅ 0) ∗ lent X c s ∗ emp) from rfl]
    isplitl [Hat]
    · iexists (0 + 1)
      isplitr; · (ipureintro; exact duties_later X _)
      iexact Hat
    · isplitl
      · iexact Hp
      · iempintro
  · iexists _; iexact HO

theorem step_barw {α : Type} (l : List Dt) (hl : ∀ d ∈ l, lvl .bar < lvl d.ce) (k : PUnit → KP (F := F) α) (Q : α → sProp 𝕄) :
    iprop(ctx X K ∗ holds (res X c) (uses .barw) ∗ ow c l)
      ⊢ iprop(((holds (res X c) (makes (row c) .barw) ∗ ow c l) -∗ WP c (k ⟨⟩) Q)
          -∗ WP c ((semWaitWord barS 5#32).bind k) Q) := by
  have hprog : (semWaitWord barS 5#32 : KP (F := F) PUnit).bind k = .op (.semWait barS 5) k := rfl
  rw [hprog]
  show iprop(ctx X K ∗ (((cred (tallyAt (gc c .bar) () 5) ∗ atPos ER (gc c .bar) 0 ∅ 0) ∗ emp) ∗ ow c l)) ⊢ _
  unfold ow
  iintro ⟨⟨#Hr, #Hl⟩, ⟨⟨HC, Hat⟩, -⟩, ⟨%W, HO⟩⟩ Hk
  ihave HI := (records_at X K c .bar) $$ Hr
  icases HI with ⟨#HI, #HR⟩
  iapply (Rounds.wp_wait_rest_token 𝒱₀ ER (Rd X) (c : Thread nD τ) none (κ := K (c, .bar)) (sm := cel .bar)
      (wpE_semWait_eq 𝒱₀ (c : Thread nD τ) none Set.univ) (Set.mem_univ _) () (O := owe c l) (W := W) (R := 0) (m := 0) (T := ∅)
      (by rw [Nat.zero_add, expect_bar])) $$ [HC HO Hat]
  · isplitr; · iexact HI
    isplitl [HC]; · iexact HC
    isplitl [HO]; · iexact HO
    isplitr; · iapply (mayWait_gc c .bar l hl); iexact Hl
    iexact Hat
  iintro ⟨HO, Hat, -, Hpay⟩
  ihave Hp := (rest_bar X c) $$ Hpay
  iapply Hk
  isplitr [HO]
  · rw [show holds (res X c) (makes (row c) (.barw)) = iprop((∃ R, ⌜∀ n, R ≤ n → (Rd X).duties (gc c .bar) n = ∅⌝ ∗ atPos ER (gc c .bar) R ∅ 0)
      ∗ holds (res X c) ((given (row c) 0 ++ given (row c) 1 ++ given (row c) 2 ++ given (row c) 3 ++ given (row c) 4).map .dst)) from rfl]
    rw [holds_map]
    isplitl [Hat]
    · iexists (0 + 1)
      isplitr; · (ipureintro; exact duties_later X _)
      iexact Hat
    · iexact Hp
  · iexists _; iexact HO

end Cert.Run
-- ==== Proof.Puts.lean ====
/-
# The products

Each product reads a whole slot, multiplies it by the device's columns of the weights and stores the
result in the rows of the block's device. This module says what the result is to hold, and has one lemma
for every product.
-/
module

public import proofs.«01_k».proof.Proof.Comm

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the result is to hold -/

/-- The device whose block a product multiplies. -/
def blk (c : Dev nD) : Src → Dev nD
  | .x => c
  | .col j => dn ((kPut j).val + 1) c
  | .pf i => dn i.val (pv c)
  | .pb i => dn i.val (nx c)
  | .hf i => dn i.val (op c)
  | .hb i => dn i.val (op c)

/-- Where in its device's rows a product starts. -/
def low : Src → ℕ
  | .hb _ => 64
  | _ => 0

/-- A block with a leading axis of one. -/
def lift (x : S128x2048.Idx → Elt F .bf16) : Vec F S1x128x2048 .bf16 :=
  fun i => x (ix2 (n0 := 128) (n1 := 2048) (i 1) (i 2))

theorem half_lt (h : Fin 2) (a : Fin 64) : 64 * h.val + a.val < 128 := by omega

/-- Half of a block, with a leading axis of one. -/
def half (x : S128x2048.Idx → Elt F .bf16) (h : Fin 2) : Vec F S1x64x2048 .bf16 :=
  fun i => x (ix2 (n0 := 128) (n1 := 2048) ⟨64 * h.val + (i 1).val, half_lt h (i 1)⟩ (i 2))

variable (X : Blocks F) (w : FVec F S2048x128 .bf16) (c : Dev nD)

/-- The device whose block gives a row of the result. -/
def rowDev (i : S2048x128.Idx) : Dev nD := ⟨(i 0).val / 128 % 16, nD_pos _⟩

/-- The result at an index: the block product of the row's device; the column across is multiplied by
    halves. -/
def outAt (i : S2048x128.Idx) : F .f32 :=
  if (rowDev i).val % 4 = (c.val + 2) % 4 then
    k0_pay18 w (half (X (rowDev i)) ⟨(i 0).val / 64 % 2, Nat.mod_lt _ (by decide)⟩)
      (ix2 (n0 := 64) (n1 := 128) ⟨(i 0).val % 64, Nat.mod_lt _ (by decide)⟩ (i 1))
  else
    k0_pay1 w (lift (X (rowDev i))) (ix2 (n0 := 128) (n1 := 128) ⟨(i 0).val % 128, Nat.mod_lt _ (by decide)⟩ (i 1))

/-! ## Where each product goes -/

theorem off_facts (q : Src) : offP c q 0 = 128 * (blk c q).val + low q ∧ offP c q 1 = 0 := by
  cases q with
  | x => show k0_off1 c 0 = _ ∧ k0_off1 c 1 = 0; rw [k0_off1_eq]; exact ⟨rfl, rfl⟩
  | col j =>
    match j with
    | 0 => show k0_off2 c 0 = _ ∧ k0_off2 c 1 = 0; rw [k0_off2_eq]; revert c; decide
    | 1 => show k0_off3 c 0 = _ ∧ k0_off3 c 1 = 0; rw [k0_off3_eq]; revert c; decide
    | 2 => show k0_off4 c 0 = _ ∧ k0_off4 c 1 = 0; rw [k0_off4_eq]; revert c; decide
    | 3 => show k0_off5 c 0 = _ ∧ k0_off5 c 1 = 0; rw [k0_off5_eq]; revert c; decide
    | 4 => show k0_off6 c 0 = _ ∧ k0_off6 c 1 = 0; rw [k0_off6_eq]; revert c; decide
    | 5 => show k0_off7 c 0 = _ ∧ k0_off7 c 1 = 0; rw [k0_off7_eq]; revert c; decide
  | pf i =>
    have h := k0_off8_eq c 1 i
    show k0_off8 c (BitVec.ofNat 32 (1 + 2 * (1 : Fin 2).val)) (BitVec.ofNat 32 (4 * i.val)) 0 = _
      ∧ k0_off8 c (BitVec.ofNat 32 (1 + 2 * (1 : Fin 2).val)) (BitVec.ofNat 32 (4 * i.val)) 1 = 0
    rw [h]; clear h; revert i c; decide +kernel
  | pb i =>
    have h := k0_off8_eq c 0 i
    show k0_off8 c (BitVec.ofNat 32 (1 + 2 * (0 : Fin 2).val)) (BitVec.ofNat 32 (4 * i.val)) 0 = _
      ∧ k0_off8 c (BitVec.ofNat 32 (1 + 2 * (0 : Fin 2).val)) (BitVec.ofNat 32 (4 * i.val)) 1 = 0
    rw [h]; clear h; revert i c; decide +kernel
  | hf i =>
    have h := k0_off9_eq c i 0
    show k0_off9 c (BitVec.ofNat 32 (4 * i.val)) (BitVec.ofNat 32 (64 * (0 : Fin 2).val)) 0 = _
      ∧ k0_off9 c (BitVec.ofNat 32 (4 * i.val)) (BitVec.ofNat 32 (64 * (0 : Fin 2).val)) 1 = 0
    rw [h]; clear h; revert i c; decide +kernel
  | hb i =>
    have h := k0_off9_eq c i 1
    show k0_off9 c (BitVec.ofNat 32 (4 * i.val)) (BitVec.ofNat 32 (64 * (1 : Fin 2).val)) 0 = _
      ∧ k0_off9 c (BitVec.ofNat 32 (4 * i.val)) (BitVec.ofNat 32 (64 * (1 : Fin 2).val)) 1 = 0
    rw [h]; clear h; revert i c; decide +kernel

/-- Which products are by halves: those of the column across. -/
theorem across_facts (c : Dev nD) :
    (c.val % 4 ≠ (c.val + 2) % 4) ∧ (∀ k : Fin 3, (dn (k.val + 1) c).val % 4 ≠ (c.val + 2) % 4)
      ∧ (∀ i : Fin 4, (dn i.val (pv c)).val % 4 ≠ (c.val + 2) % 4) ∧ (∀ i : Fin 4, (dn i.val (nx c)).val % 4 ≠ (c.val + 2) % 4)
      ∧ (∀ i : Fin 4, (dn i.val (op c)).val % 4 = (c.val + 2) % 4) := by
  revert c; decide +kernel

/-- The extent of a product's rows. -/
abbrev rows (q : Src) : Rect S2048x128 := outR c q

theorem emb_row (q : Src) (j : (outR c q).shape.Idx) :
    ((outR c q).emb j 0).val = 128 * (blk c q).val + low q + (j 0).val ∧ ((outR c q).emb j 1).val = (j 1).val := by
  obtain ⟨h0, h1⟩ := off_facts c q
  refine ⟨?_, ?_⟩
  · rw [ValueKit.rect_emb_unit_val, h0]
  · rw [ValueKit.rect_emb_unit_val, h1, Nat.zero_add]

/-- A product of a whole block is what its rows are to hold. -/
theorem outAt_whole (d : Dev nD) (hd : d.val % 4 ≠ (c.val + 2) % 4) (i : S2048x128.Idx) (j : S128x128.Idx)
    (h0 : (i 0).val = 128 * d.val + (j 0).val) (h1 : (i 1).val = (j 1).val) :
    outAt X w c i = k0_pay1 w (lift (X d)) j := by
  have hj : (j 0).val < 128 := (j 0).isLt
  have hlt : d.val < 16 := d.isLt
  have e : rowDev i = d := Fin.ext (by show (i 0).val / 128 % 16 = d.val; omega)
  unfold outAt
  rw [e, if_neg hd]
  refine congrArg _ (idx2_ext ?_ h1)
  show (i 0).val % 128 = _
  omega

/-- A product of half a block is what its rows are to hold. -/
theorem outAt_half (d : Dev nD) (hd : d.val % 4 = (c.val + 2) % 4) (h : Fin 2) (i : S2048x128.Idx) (j : S64x128.Idx)
    (h0 : (i 0).val = 128 * d.val + 64 * h.val + (j 0).val) (h1 : (i 1).val = (j 1).val) :
    outAt X w c i = k0_pay18 w (half (X d) h) j := by
  have hj : (j 0).val < 64 := (j 0).isLt
  have hlt : d.val < 16 := d.isLt
  have hh : h.val < 2 := h.isLt
  have e : rowDev i = d := Fin.ext (by show (i 0).val / 128 % 16 = d.val; omega)
  have e2 : (⟨(i 0).val / 64 % 2, Nat.mod_lt _ (by decide)⟩ : Fin 2) = h := Fin.ext (by show (i 0).val / 64 % 2 = h.val; omega)
  unfold outAt
  rw [e, if_pos hd, e2]
  refine congrArg _ (idx2_ext ?_ h1)
  show (i 0).val % 64 = _
  omega

/-! ## Storing -/

/-- The result, with the rows of the products `D` done. -/
def outPts (D : List Src) : sProp 𝕄 :=
  iprop(∃ f : Buf (Elt F) ((c : Thread nD τ).loc cc0_stg2_0),
    ⌜∀ q ∈ D, ∀ i ∈ (outR c q).set, f i = outAt X w c i⌝ ∗ (((c : Thread nD τ).loc cc0_stg2_0) ↦{fullShare} f))

theorem out_write (r : Rect S2048x128) (v : r.shape.Idx → F .f32) (hv : ∀ j, v j = outAt X w c (r.emb j))
    (f : Buf (Elt F) ((c : Thread nD τ).loc cc0_stg2_0)) :
    (∀ i ∈ r.set, (oM.access r).write (Elt F) f v Finset.univ i = outAt X w c i)
      ∧ ∀ i ∉ r.set, (oM.access r).write (Elt F) f v Finset.univ i = f i := by
  have hs : (oM.access r).set = r.set := View.set_slice_whole cc0_stg2_0 r
  refine ⟨fun i hi => ?_, fun i hi => ?_⟩
  · rw [← hs] at hi
    obtain ⟨j, -, rfl⟩ := Finset.mem_map.1 hi
    rw [View.write_emb_of_mem (h := Finset.mem_univ j)]
    exact hv j
  · refine View.write_of_not_mem (h := fun h => hi ?_) ..
    rw [← hs]; exact h

theorem step_store128 {α : Type} (q : Src) (hq : q.ext = S128x128.size) (v : FVec F S128x128 .f32)
    (hv : ∀ (j : S128x128.Idx) (i : S2048x128.Idx), (i 0).val = 128 * (blk c q).val + low q + (j 0).val → (i 1).val = (j 1).val →
      outAt X w c i = v j) (inb : ∀ a, offP c q a + S128x128.size a ≤ S2048x128.size a)
    (D : List Src) (k : PUnit → KP (F := F) α) (Q : α → sProp 𝕄) :
    outPts X w c D ⊢ iprop((outPts X w c (q :: D) -∗ WP c (k ⟨⟩) Q) -∗ WP c ((outP128 (offP c q) inb v).bind k) Q) := by
  have hR : ∃ h, outR c q = Rect.unit (s := S2048x128) (offP c q) S128x128.size h := by
    unfold outR; exact ⟨inb, by congr⟩
  obtain ⟨hb, hR⟩ := hR
  have hprog : (outP128 (offP c q) inb v).bind k
      = .op (.load oM (Rect.unit (s := S2048x128) (offP c q) S128x128.size inb).toLoadRect (View.loadsAt_vmem h_S128x128))
          fun _ => .op (.store oM (Rect.unit (s := S2048x128) (offP c q) S128x128.size inb) v Finset.univ
            (View.stores_vmem_bits_univ h_S128x128 rfl) (.inl rfl)) k := rfl
  rw [hprog]
  have hO := off_facts c q
  have hw := out_write X w c (Rect.unit (s := S2048x128) (offP c q) S128x128.size inb) v (fun j => (hv j _
    (by rw [ValueKit.rect_emb_unit_val, hO.1]) (by rw [ValueKit.rect_emb_unit_val, hO.2, Nat.zero_add])).symm)
  unfold outPts
  iintro ⟨%f, %hf, H⟩ Hk
  iapply (wp_load 𝒱₀ (c : Thread nD τ) none Set.univ (m := oM) (Finset.subset_univ _)) $$ H; iintro H
  iapply (wp_store 𝒱₀ (c : Thread nD τ) none Set.univ (m := oM)
    (r := Rect.unit (s := S2048x128) (offP c q) S128x128.size inb) (Mk := Finset.univ) (Finset.subset_univ _)) $$ H; iintro H
  iapply Hk
  iexists _
  isplitr [H]
  · ipureintro
    intro q' hq' i hi
    by_cases hm : i ∈ (Rect.unit (s := S2048x128) (offP c q) S128x128.size inb).set
    · exact (hw f).1 i hm
    · rw [(hw f).2 i hm]
      rcases List.mem_cons.1 hq' with rfl | h
      · rw [hR] at hi; exact absurd hi hm
      · exact hf q' h i hi
  · iexact H

theorem step_store64 {α : Type} (q : Src) (hq : q.ext = S64x128.size) (v : FVec F S64x128 .f32)
    (hv : ∀ (j : S64x128.Idx) (i : S2048x128.Idx), (i 0).val = 128 * (blk c q).val + low q + (j 0).val → (i 1).val = (j 1).val →
      outAt X w c i = v j) (inb : ∀ a, offP c q a + S64x128.size a ≤ S2048x128.size a)
    (D : List Src) (k : PUnit → KP (F := F) α) (Q : α → sProp 𝕄) :
    outPts X w c D ⊢ iprop((outPts X w c (q :: D) -∗ WP c (k ⟨⟩) Q) -∗ WP c ((outP64 (offP c q) inb v).bind k) Q) := by
  have hR : ∃ h, outR c q = Rect.unit (s := S2048x128) (offP c q) S64x128.size h := by
    unfold outR; exact ⟨inb, by congr⟩
  obtain ⟨hb, hR⟩ := hR
  have hprog : (outP64 (offP c q) inb v).bind k
      = .op (.load oM (Rect.unit (s := S2048x128) (offP c q) S64x128.size inb).toLoadRect (View.loadsAt_vmem h_S64x128))
          fun _ => .op (.store oM (Rect.unit (s := S2048x128) (offP c q) S64x128.size inb) v Finset.univ
            (View.stores_vmem_bits_univ h_S64x128 rfl) (.inl rfl)) k := rfl
  rw [hprog]
  have hO := off_facts c q
  have hw := out_write X w c (Rect.unit (s := S2048x128) (offP c q) S64x128.size inb) v (fun j => (hv j _
    (by rw [ValueKit.rect_emb_unit_val, hO.1]) (by rw [ValueKit.rect_emb_unit_val, hO.2, Nat.zero_add])).symm)
  unfold outPts
  iintro ⟨%f, %hf, H⟩ Hk
  iapply (wp_load 𝒱₀ (c : Thread nD τ) none Set.univ (m := oM) (Finset.subset_univ _)) $$ H; iintro H
  iapply (wp_store 𝒱₀ (c : Thread nD τ) none Set.univ (m := oM)
    (r := Rect.unit (s := S2048x128) (offP c q) S64x128.size inb) (Mk := Finset.univ) (Finset.subset_univ _)) $$ H; iintro H
  iapply Hk
  iexists _
  isplitr [H]
  · ipureintro
    intro q' hq' i hi
    by_cases hm : i ∈ (Rect.unit (s := S2048x128) (offP c q) S64x128.size inb).set
    · exact (hw f).1 i hm
    · rw [(hw f).2 i hm]
      rcases List.mem_cons.1 hq' with rfl | h
      · rw [hR] at hi; exact absurd hi hm
      · exact hf q' h i hi
  · iexact H

/-! ## Reading -/

section Emb3
variable {n0 n1 n2 r : ℕ} (a : ℕ)
  (inb : ∀ x, (![a, 0, 0] : Fin 3 → ℕ) x + (⟨3, ![1, r, n2]⟩ : Shape).size x ≤ (⟨3, ![n0, n1, n2]⟩ : Shape).size x)
  (j : (⟨3, ![1, r, n2]⟩ : Shape).Idx)

theorem emb3_0 : ((Rect.unit (s := ⟨3, ![n0, n1, n2]⟩) ![a, 0, 0] (⟨3, ![1, r, n2]⟩ : Shape).size inb).emb j 0 : ℕ) = a := by
  rw [ValueKit.rect_emb_unit_val]
  have h : (j 0).val < 1 := (j 0).isLt
  show a + (j 0).val = a
  omega

theorem emb3_1 : ((Rect.unit (s := ⟨3, ![n0, n1, n2]⟩) ![a, 0, 0] (⟨3, ![1, r, n2]⟩ : Shape).size inb).emb j 1 : ℕ)
    = (j 1).val := by
  rw [ValueKit.rect_emb_unit_val]; exact Nat.zero_add _

theorem emb3_2 : ((Rect.unit (s := ⟨3, ![n0, n1, n2]⟩) ![a, 0, 0] (⟨3, ![1, r, n2]⟩ : Shape).size inb).emb j 2 : ℕ)
    = (j 2).val := by
  rw [ValueKit.rect_emb_unit_val]; exact Nat.zero_add _

end Emb3

theorem read_x : (xM.access (Rect.unit (s := S128x2048) ![0, 0] S128x2048.size inb_S128x2048_S128x2048_0_0)).read (Elt F)
    (xB X c) = X c :=
  Memref.readAt_unit_zero (Elt F) cc0_stg0_0 (by funext a; fin_cases a <;> rfl) inb_S128x2048_S128x2048_0_0 (xB X c)

theorem read_col (k : Fin 3) : (cM.access (Rect.unit (s := S3x128x2048) ![k.val, 0, 0] S1x128x2048.size (inbC k))).read (Elt F)
    (colB X c) = lift (X (dn (k.val + 1) c)) := by
  funext j
  exact X_congr X (congrArg (fun n => dn (n + 1) c) (emb3_0 k.val (inbC k) j)) (emb3_1 k.val (inbC k) j) (emb3_2 k.val (inbC k) j)

theorem read_pf (i : Fin 4) : (pfM.access (Rect.unit (s := S4x128x2048) ![i.val, 0, 0] S1x128x2048.size (inbP i))).read (Elt F)
    (pfB X c) = lift (X (dn i.val (pv c))) := by
  funext j
  exact X_congr X (congrArg (fun n => dn n (pv c)) (emb3_0 i.val (inbP i) j)) (emb3_1 i.val (inbP i) j) (emb3_2 i.val (inbP i) j)

theorem read_pb (i : Fin 4) : (pbM.access (Rect.unit (s := S4x128x2048) ![i.val, 0, 0] S1x128x2048.size (inbP i))).read (Elt F)
    (pbB X c) = lift (X (dn i.val (nx c))) := by
  funext j
  exact X_congr X (congrArg (fun n => dn n (nx c)) (emb3_0 i.val (inbP i) j)) (emb3_1 i.val (inbP i) j) (emb3_2 i.val (inbP i) j)

theorem read_hf (i : Fin 4) : (hfM.access (Rect.unit (s := S4x64x2048) ![i.val, 0, 0] S1x64x2048.size (inbH i))).read (Elt F)
    (hfB X c) = half (X (dn i.val (op c))) 0 := by
  funext j
  exact X_congr X (congrArg (fun n => dn n (op c)) (emb3_0 i.val (inbH i) j))
    ((emb3_1 i.val (inbH i) j).trans (Nat.zero_add _).symm) (emb3_2 i.val (inbH i) j)

theorem read_hb (i : Fin 4) : (hbM.access (Rect.unit (s := S4x64x2048) ![i.val, 0, 0] S1x64x2048.size (inbH i))).read (Elt F)
    (hbB X c) = half (X (dn i.val (op c))) 1 := by
  funext j
  exact X_congr X (congrArg (fun n => dn n (op c)) (emb3_0 i.val (inbH i) j))
    (congrArg (64 + ·) (emb3_1 i.val (inbH i) j)) (emb3_2 i.val (inbH i) j)

/-- The product of the device's own block, as the products of the slots are written. -/
theorem pay_own (x : S128x2048.Idx → Elt F .bf16) : k0_pay8 w x = k0_pay1 w (lift x) := by
  unfold k0_pay8 k0_pay1
  have e : (shapeCast S128x2048 x shapeCasts_S128x2048_S128x2048 : FVec F S128x2048 .bf16)
      = shapeCast S128x2048 (lift x) shapeCasts_S1x128x2048_S128x2048 := by
    rw [shapeCast_self]
    funext j
    show x j = lift x (Shape.reshapeEquiv shapeCasts_S1x128x2048_S128x2048 j)
    rw [Shape.reshapeEquiv_cons_one (d := ![128, 2048])]
    exact congrArg x (idx2_ext rfl rfl)
  simp only [e]

/-! ## Slots read whole -/

theorem pf_halves (i : Fin 4) : (pfM.access (Rect.unit (s := S4x128x2048) ![i.val, 0, 0] S1x128x2048.size (inbP i))).set
    ⊆ (pfH i 0).view.set ∪ (pfH i 1).view.set := by
  intro j hj
  have h1 := (mem_rect3 i.val 0 (inbP i)).1 ((Finset.ext_iff.1 (View.set_slice_whole cc0_scratch1 _) j).1 hj)
  refine Finset.mem_union.2 ?_
  rw [mem_pfH i 0 j, mem_pfH i 1 j]
  simp only [Fin.val_zero, Fin.val_one]
  omega

theorem pf_disj (i : Fin 4) : Disjoint (pfH i 0).view.set (pfH i 1).view.set := by
  refine Finset.disjoint_left.2 fun j h h' => ?_
  have h2 := ((mem_pfH i 0 j).1 h).2; have h3 := ((mem_pfH i 1 j).1 h').2
  simp only [Fin.val_zero, Fin.val_one] at h2 h3
  omega

theorem pb_halves (i : Fin 4) : (pbM.access (Rect.unit (s := S4x128x2048) ![i.val, 0, 0] S1x128x2048.size (inbP i))).set
    ⊆ (pbH i 0).view.set ∪ (pbH i 1).view.set := by
  intro j hj
  have h1 := (mem_rect3 i.val 0 (inbP i)).1 ((Finset.ext_iff.1 (View.set_slice_whole cc0_scratch2 _) j).1 hj)
  refine Finset.mem_union.2 ?_
  rw [mem_pbH i 0 j, mem_pbH i 1 j]
  simp only [Fin.val_zero, Fin.val_one]
  omega

theorem pb_disj (i : Fin 4) : Disjoint (pbH i 0).view.set (pbH i 1).view.set := by
  refine Finset.disjoint_left.2 fun j h h' => ?_
  have h2 := ((mem_pbH i 0 j).1 h).2; have h3 := ((mem_pbH i 1 j).1 h').2
  simp only [Fin.val_zero, Fin.val_one] at h2 h3
  omega

theorem col_sub (k : Fin 3) : (cM.access (Rect.unit (s := S3x128x2048) ![k.val, 0, 0] S1x128x2048.size (inbC k))).set
    ⊆ (colM k).view.set := by
  intro j hj
  exact (mem_col k j).2 ((mem_rect3 k.val 0 (inbC k)).1 ((Finset.ext_iff.1 (View.set_slice_whole cc0_scratch0 _) j).1 hj))

theorem hf_sub (i : Fin 4) : (hfM.access (Rect.unit (s := S4x64x2048) ![i.val, 0, 0] S1x64x2048.size (inbH i))).set
    ⊆ (hfS i).view.set := by
  intro j hj
  exact (mem_hf i j).2 ((mem_rect3 i.val 0 (inbH i)).1 ((Finset.ext_iff.1 (View.set_slice_whole cc0_scratch3 _) j).1 hj))

theorem hb_sub (i : Fin 4) : (hbM.access (Rect.unit (s := S4x64x2048) ![i.val, 0, 0] S1x64x2048.size (inbH i))).set
    ⊆ (hbS i).view.set := by
  intro j hj
  exact (mem_hb i j).2 ((mem_rect3 i.val 0 (inbH i)).1 ((Finset.ext_iff.1 (View.set_slice_whole cc0_scratch4 _) j).1 hj))

/-! ## One lemma for the products -/

theorem step_put {α : Type} (q : Src) (D : List Src) (k : PUnit → KP (F := F) α) (Q : α → sProp 𝕄) :
    iprop(holds (res X c) (reads q) ∗ outPts X w c D)
      ⊢ iprop(((holds (res X c) (reads q) ∗ outPts X w c (q :: D)) -∗ WP c (k ⟨⟩) Q)
          -∗ WP c ((putP c w q).bind k) Q) := by
  obtain ⟨ax, acol, apf, apb, ah⟩ := across_facts c
  cases q with
  | x =>
    have hprog : (putP c w .x).bind k = .op (.load xM (Rect.unit (s := S128x2048) ![0, 0] S128x2048.size inb_S128x2048_S128x2048_0_0).toLoadRect
        (View.loadsAt_vmem h_S128x2048)) fun v => (outP128 (offP c .x) (inbO c .x) (k0_pay8 w v)).bind k := rfl
    rw [hprog]
    show iprop((kept X c .x ∗ emp) ∗ outPts X w c D) ⊢ iprop((((kept X c .x ∗ emp) ∗ outPts X w c (.x :: D)) -∗ WP c (k ⟨⟩) Q) -∗ _)
    simp only [kept]
    iintro ⟨⟨H, -⟩, HO⟩ Hk
    iapply (wp_load_rect 𝒱₀ (c : Thread nD τ) none Set.univ (m := xM) (r := Rect.unit (s := S128x2048) ![0, 0] S128x2048.size inb_S128x2048_S128x2048_0_0) (S := Finset.univ) (q := shL.left) (f := xB X c) (Finset.subset_univ _)) $$ H; iintro H
    rw [read_x, pay_own]
    iapply (step_store128 X w c .x rfl _ (fun j i h0 h1 => outAt_whole X w c c ax i j h0 h1) (inbO c .x) D k Q) $$ HO
    iintro HO
    iapply Hk
    isplitl [H]
    · isplitl [H]; · iexact H
      iempintro
    · iexact HO
  | col j =>
    have hprog : (putP c w (.col j)).bind k = .op (.load cM (Rect.unit (s := S3x128x2048) ![(kPut j).val, 0, 0] S1x128x2048.size (inbC (kPut j))).toLoadRect
        (View.loadsAt_vmem h_S1x128x2048)) fun v => (outP128 (offP c (.col j)) (inbO c (.col j)) (k0_pay1 w v)).bind k := rfl
    rw [hprog]
    show iprop((kept X c (.col (kPut j)) ∗ emp) ∗ outPts X w c D) ⊢ iprop((((kept X c (.col (kPut j)) ∗ emp) ∗ outPts X w c (.col j :: D)) -∗ WP c (k ⟨⟩) Q) -∗ _)
    simp only [kept]
    iintro ⟨⟨H, -⟩, HO⟩ Hk
    iapply (wp_load_rect 𝒱₀ (c : Thread nD τ) none Set.univ (m := cM) (col_sub (kPut j))) $$ H; iintro H
    rw [read_col]
    iapply (step_store128 X w c (.col j) rfl _ (fun j' i h0 h1 => outAt_whole X w c _ (acol (kPut j)) i j' h0 h1) (inbO c (.col j)) D k Q) $$ HO
    iintro HO
    iapply Hk
    isplitl [H]
    · isplitl [H]; · iexact H
      iempintro
    · iexact HO
  | pf i =>
    have hprog : (putP c w (.pf i)).bind k = .op (.load pfM (Rect.unit (s := S4x128x2048) ![i.val, 0, 0] S1x128x2048.size (inbP i)).toLoadRect
        (View.loadsAt_vmem h_S1x128x2048)) fun v => (outP128 (offP c (.pf i)) (inbO c (.pf i)) (k0_pay1 w v)).bind k := rfl
    rw [hprog]
    show iprop((kept X c (.pf i 0) ∗ kept X c (.pf i 1) ∗ emp) ∗ outPts X w c D)
      ⊢ iprop((((kept X c (.pf i 0) ∗ kept X c (.pf i 1) ∗ emp) ∗ outPts X w c (.pf i :: D)) -∗ WP c (k ⟨⟩) Q) -∗ _)
    have hU := pointsTo_union (pf_disj i) (ℓ := pfM.view.loc (c : Thread nD τ)) (q := shL) (f := pfB X c)
      (Ix := Unit) (Name := ℕ) (U := UU) (Lvl := ℕ)
    simp only [kept]
    iintro ⟨⟨H0, H1, -⟩, HO⟩ Hk
    ihave H := hU.2 $$ [H0 H1]
    · isplitl [H0]; · iexact H0
      iexact H1
    iapply (wp_load_rect 𝒱₀ (c : Thread nD τ) none Set.univ (m := pfM) (pf_halves i)) $$ H; iintro H
    rw [read_pf]
    iapply (step_store128 X w c (.pf i) rfl _ (fun j' i' h0 h1 => outAt_whole X w c _ (apf i) i' j' h0 h1) (inbO c (.pf i)) D k Q) $$ HO
    iintro HO
    ihave H := hU.1 $$ H
    icases H with ⟨H0, H1⟩
    iapply Hk
    isplitr [HO]
    · isplitl [H0]; · iexact H0
      isplitl [H1]; · iexact H1
      iempintro
    · iexact HO
  | pb i =>
    have hprog : (putP c w (.pb i)).bind k = .op (.load pbM (Rect.unit (s := S4x128x2048) ![i.val, 0, 0] S1x128x2048.size (inbP i)).toLoadRect
        (View.loadsAt_vmem h_S1x128x2048)) fun v => (outP128 (offP c (.pb i)) (inbO c (.pb i)) (k0_pay1 w v)).bind k := rfl
    rw [hprog]
    show iprop((kept X c (.pb i 0) ∗ kept X c (.pb i 1) ∗ emp) ∗ outPts X w c D)
      ⊢ iprop((((kept X c (.pb i 0) ∗ kept X c (.pb i 1) ∗ emp) ∗ outPts X w c (.pb i :: D)) -∗ WP c (k ⟨⟩) Q) -∗ _)
    have hU := pointsTo_union (pb_disj i) (ℓ := pbM.view.loc (c : Thread nD τ)) (q := shL) (f := pbB X c)
      (Ix := Unit) (Name := ℕ) (U := UU) (Lvl := ℕ)
    simp only [kept]
    iintro ⟨⟨H0, H1, -⟩, HO⟩ Hk
    ihave H := hU.2 $$ [H0 H1]
    · isplitl [H0]; · iexact H0
      iexact H1
    iapply (wp_load_rect 𝒱₀ (c : Thread nD τ) none Set.univ (m := pbM) (pb_halves i)) $$ H; iintro H
    rw [read_pb]
    iapply (step_store128 X w c (.pb i) rfl _ (fun j' i' h0 h1 => outAt_whole X w c _ (apb i) i' j' h0 h1) (inbO c (.pb i)) D k Q) $$ HO
    iintro HO
    ihave H := hU.1 $$ H
    icases H with ⟨H0, H1⟩
    iapply Hk
    isplitr [HO]
    · isplitl [H0]; · iexact H0
      isplitl [H1]; · iexact H1
      iempintro
    · iexact HO
  | hf i =>
    have hprog : (putP c w (.hf i)).bind k = .op (.load hfM (Rect.unit (s := S4x64x2048) ![i.val, 0, 0] S1x64x2048.size (inbH i)).toLoadRect
        (View.loadsAt_vmem h_S1x64x2048)) fun v => (outP64 (offP c (.hf i)) (inbO c (.hf i)) (k0_pay18 w v)).bind k := rfl
    rw [hprog]
    show iprop((kept X c (.hf i) ∗ emp) ∗ outPts X w c D) ⊢ iprop((((kept X c (.hf i) ∗ emp) ∗ outPts X w c (.hf i :: D)) -∗ WP c (k ⟨⟩) Q) -∗ _)
    simp only [kept]
    iintro ⟨⟨H, -⟩, HO⟩ Hk
    iapply (wp_load_rect 𝒱₀ (c : Thread nD τ) none Set.univ (m := hfM) (hf_sub i)) $$ H; iintro H
    rw [read_hf]
    iapply (step_store64 X w c (.hf i) rfl _ (fun j' i' h0 h1 => outAt_half X w c _ (ah i) 0 i' j' h0 h1) (inbO c (.hf i)) D k Q) $$ HO
    iintro HO
    iapply Hk
    isplitl [H]
    · isplitl [H]; · iexact H
      iempintro
    · iexact HO
  | hb i =>
    have hprog : (putP c w (.hb i)).bind k = .op (.load hbM (Rect.unit (s := S4x64x2048) ![i.val, 0, 0] S1x64x2048.size (inbH i)).toLoadRect
        (View.loadsAt_vmem h_S1x64x2048)) fun v => (outP64 (offP c (.hb i)) (inbO c (.hb i)) (k0_pay18 w v)).bind k := rfl
    rw [hprog]
    show iprop((kept X c (.hb i) ∗ emp) ∗ outPts X w c D) ⊢ iprop((((kept X c (.hb i) ∗ emp) ∗ outPts X w c (.hb i :: D)) -∗ WP c (k ⟨⟩) Q) -∗ _)
    simp only [kept]
    iintro ⟨⟨H, -⟩, HO⟩ Hk
    iapply (wp_load_rect 𝒱₀ (c : Thread nD τ) none Set.univ (m := hbM) (hb_sub i)) $$ H; iintro H
    rw [read_hb]
    iapply (step_store64 X w c (.hb i) rfl _ (fun j' i' h0 h1 => outAt_half X w c _ (ah i) 1 i' j' h0 h1) (inbO c (.hb i)) D k Q) $$ HO
    iintro HO
    iapply Hk
    isplitl [H]
    · isplitl [H]; · iexact H
      iempintro
    · iexact HO

end Cert.Run
-- ==== Proof.Run.lean ====
/-
# The acts, run

One act, whichever its kind, by the lemmas of the kinds; then a list of acts, by the plan's checker.
-/
module

public import proofs.«01_k».proof.Proof.Puts

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Reading the checker -/

theorem take_holds (P : Tok → sProp 𝕄) (T S S' : List Tok) (h : take T S = some S') :
    holds P S ⊢ iprop(holds P T ∗ holds P S') := by
  induction T generalizing S with
  | nil =>
    obtain rfl : S = S' := Option.some.inj h
    exact BIClass.emp_sep.2
  | cons t T ih =>
    unfold take at h
    split at h
    · next hm =>
      have h1 := holds_perm P (List.perm_cons_erase hm)
      exact h1.trans ((sep_mono_right (ih _ h)).trans sep_assoc.2)
    · exact absurd h (by simp)

theorem check_cons {z : ℕ} {a : Sh} {l : List Sh} {S Sf : List Tok} (h : check z (a :: l) S = some Sf) :
    sane z a = true ∧ below a (debts l) = true
      ∧ ∃ S', take (uses a) S = some S' ∧ check z l (makes z a ++ S') = some Sf := by
  unfold check at h
  split at h
  · next hc =>
    have hc := Bool.and_eq_true_iff.1 hc
    split at h
    · next S' hS => exact ⟨hc.1, hc.2, S', hS, h⟩
    · exact absurd h (by simp)
  · exact absurd h (by simp)

theorem below_lt {a : Sh} {x : Ce} (hx : waits a = some x) {l : List Dt} (h : below a l = true) :
    ∀ d ∈ l, lvl x < lvl d.ce := by
  unfold below at h
  rw [hx] at h
  intro d hd
  exact of_decide_eq_true (List.all_eq_true.1 h d hd)

/-- The products done after an act. -/
def addP : Sh → List Src → List Src
  | .put q, D => q :: D
  | _, D => D

/-- The products done after a list of acts. -/
def addPs : List Sh → List Src → List Src
  | [], D => D
  | a :: l, D => addPs l (addP a D)

variable (X : Blocks F) (w : FVec F S2048x128 .bf16) (K : Dev nD × Ce → ℕ) (c : Dev nD)

/-- A lemma of a communicating act, with the result alongside. -/
theorem step_frame {α : Type} {U M O O' : sProp 𝕄} {D : List Src} {k : PUnit → KP (F := F) α} {p : KP (F := F) α} {Q : α → sProp 𝕄}
    (h : iprop(ctx X K ∗ U ∗ O) ⊢ iprop(((M ∗ O') -∗ WP c (k ⟨⟩) Q) -∗ WP c p Q)) :
    iprop(ctx X K ∗ U ∗ O ∗ outPts X w c D)
      ⊢ iprop(((M ∗ O' ∗ outPts X w c D) -∗ WP c (k ⟨⟩) Q) -∗ WP c p Q) := by
  iintro ⟨#Hc, HU, HO, Hout⟩ Hk
  iapply h $$ [HU HO] [Hout Hk]
  · isplitr; · iexact Hc
    isplitl [HU]; · iexact HU
    iexact HO
  · iintro ⟨HM, HO⟩
    iapply Hk
    isplitl [HM]; · iexact HM
    isplitl [HO]; · iexact HO
    iexact Hout

/-- One act. -/
theorem step {α : Type} (a : Act) (hok : a.ok c) (l : List Sh) (hs : sane (row c) a.sh = true)
    (hb : below a.sh (debts l) = true) (D : List Src) (k : PUnit → KP (F := F) α) (Q : α → sProp 𝕄) :
    iprop(ctx X K ∗ holds (res X c) (uses a.sh) ∗ ow c (debts (a.sh :: l)) ∗ outPts X w c D)
      ⊢ iprop(((holds (res X c) (makes (row c) a.sh) ∗ ow c (debts l) ∗ outPts X w c (addP a.sh D)) -∗ WP c (k ⟨⟩) Q)
          -∗ WP c ((a.prog c w).bind k) Q) := by
  cases a with
  | sig j n => exact step_frame X w K c (step_sig X K c j n hok (debts l) k Q)
  | barw => exact step_frame X w K c (step_barw X K c (debts l) (below_lt rfl hb) k Q)
  | send s n => exact step_frame X w K c (step_send X K c s n hok hs (debts l) k Q)
  | waitR r => exact step_frame X w K c (step_waitR X K c r (debts l) (below_lt rfl hb) k Q)
  | waitS s => exact step_frame X w K c (step_waitS X K c s hs (debts l) (below_lt rfl hb) k Q)
  | put q =>
    show iprop(ctx X K ∗ holds (res X c) (reads q) ∗ ow c (debts l) ∗ outPts X w c D)
      ⊢ iprop(((holds (res X c) (reads q) ∗ ow c (debts l) ∗ outPts X w c (q :: D)) -∗ WP c (k ⟨⟩) Q)
          -∗ WP c ((putP c w q).bind k) Q)
    iintro ⟨#Hc, HU, HO, Hout⟩ Hk
    iapply (step_put X w c q D k Q) $$ [HU Hout] [HO Hk]
    · isplitl [HU]; · iexact HU
      iexact Hout
    · iintro ⟨HM, Hout⟩
      iapply Hk
      isplitl [HM]; · iexact HM
      isplitl [HO]; · iexact HO
      iexact Hout

/-- A list of acts that the checker passes. -/
theorem run_spec (l : List Act) (hok : ∀ a ∈ l, a.ok c) (S Sf : List Tok) (D : List Src)
    (h : check (row c) (l.map Act.sh) S = some Sf) (Q : PUnit → sProp 𝕄) :
    iprop(ctx X K ∗ holds (res X c) S ∗ ow c (debts (l.map Act.sh)) ∗ outPts X w c D)
      ⊢ iprop(((holds (res X c) Sf ∗ ow c [] ∗ outPts X w c (addPs (l.map Act.sh) D)) -∗ WP c (.ret ⟨⟩) Q)
          -∗ WP c (run c w l) Q) := by
  induction l generalizing S D with
  | nil =>
    obtain rfl : S = Sf := Option.some.inj h
    show iprop(ctx X K ∗ holds (res X c) S ∗ ow c [] ∗ outPts X w c D)
      ⊢ iprop(((holds (res X c) S ∗ ow c [] ∗ outPts X w c D) -∗ WP c (.ret ⟨⟩) Q) -∗ WP c (.ret ⟨⟩) Q)
    iintro ⟨#Hc, HU, HO, Hout⟩ Hk
    iapply Hk
    isplitl [HU]; · iexact HU
    isplitl [HO]; · iexact HO
    iexact Hout
  | cons a l ih =>
    obtain ⟨hs, hb, S', ht, hc⟩ := check_cons h
    show iprop(ctx X K ∗ holds (res X c) S ∗ ow c (debts (a.sh :: l.map Act.sh)) ∗ outPts X w c D)
      ⊢ iprop(((holds (res X c) Sf ∗ ow c [] ∗ outPts X w c (addPs (l.map Act.sh) (addP a.sh D))) -∗ WP c (.ret ⟨⟩) Q)
          -∗ WP c ((a.prog c w).bind fun _ => run c w l) Q)
    iintro ⟨#Hc, HS, HO, Hout⟩ Hk
    ihave HS := (take_holds (res X c) _ _ _ ht) $$ HS
    icases HS with ⟨HU, HS⟩
    iapply (step X w K c a (hok a List.mem_cons_self) (l.map Act.sh) hs hb D (fun _ => run c w l) Q) $$ [HU HO Hout] [HS Hk]
    · isplitr; · iexact Hc
      isplitl [HU]; · iexact HU
      isplitl [HO]; · iexact HO
      iexact Hout
    · iintro ⟨HM, HO, Hout⟩
      iapply (ih (fun b hb => hok b (List.mem_cons_of_mem _ hb)) _ _ hc) $$ [HM HS HO Hout] Hk
      isplitr; · iexact Hc
      isplitl [HM HS]
      · iapply (holds_append _ _ _).2
        isplitl [HM]; · iexact HM
        iexact HS
      isplitl [HO]; · iexact HO
      iexact Hout

end Cert.Run
-- ==== Proof.Ends.lean ====
/-
# The start and the end of a run

The whole buffers taken apart into what a device starts with, and what it ends with put together again:
every slot filled and whole, the device's own block back, every semaphore of the kernel at zero, every
row of the result written.
-/
module

public import proofs.«01_k».proof.Proof.Run

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lists of resources -/

theorem holds_flatMap {α β : Type} (P : β → sProp 𝕄) (f : α → List β) (l : List α) :
    holds P (l.flatMap f) ⊢ holds (fun a => holds P (f a)) l := by
  induction l with
  | nil => exact BI.Entails.refl _
  | cons a l ih =>
    rw [List.flatMap_cons]
    exact (holds_append P _ _).1.trans (sep_mono_right ih)

theorem holds_unsep {α : Type} (P Q : α → sProp 𝕄) (l : List α) :
    iprop(holds P l ∗ holds Q l) ⊢ holds (fun a => iprop(P a ∗ Q a)) l := by
  induction l with
  | nil => exact BIClass.emp_sep.1
  | cons a l ih =>
    show iprop((P a ∗ holds P l) ∗ Q a ∗ holds Q l) ⊢ iprop((P a ∗ Q a) ∗ holds (fun a => iprop(P a ∗ Q a)) l)
    iintro ⟨⟨HP, HPl⟩, HQ, HQl⟩
    isplitl [HP HQ]
    · isplitl [HP]
      · iexact HP
      · iexact HQ
    · iapply ih
      isplitl [HPl]
      · iexact HPl
      · iexact HQl

/-- A finite family of resources, listed. -/
theorem bigSep_holds {α : Type} [DecidableEq α] (P : α → sProp 𝕄) (l : List α) (hl : l.Nodup) :
    bigSep l.toFinset P = holds P l := by
  induction l with
  | nil => exact bigSep_empty
  | cons a l ih =>
    obtain ⟨ha, hl⟩ := List.nodup_cons.1 hl
    rw [List.toFinset_cons, bigSep_insert (fun h => ha (List.mem_toFinset.1 h)), ih hl]
    rfl

theorem bigSep_univ_holds {α : Type} [Fintype α] [DecidableEq α] (P : α → sProp 𝕄) (l : List α) (hl : l.Nodup)
    (h : ∀ a, a ∈ l) : bigSep Finset.univ P = holds P l := by
  rw [← bigSep_holds P l hl]
  exact congrArg (fun S => bigSep S P) (Finset.ext fun a => iff_of_true (Finset.mem_univ a) (List.mem_toFinset.2 (h a)))

/-- A set of elements cut into disjoint parts. -/
theorem cut {ι : Type} {ℓ : Loc nD τ sig} (K : ι → Finset (Idx ℓ)) (q : PosShare TreeShare) (f : Buf (Elt F) ℓ) (l : List ι)
    (hd : l.Pairwise fun a b => Disjoint (K a) (K b)) (S : Finset (Idx ℓ)) (hS : ∀ i, i ∈ S ↔ ∃ a ∈ l, i ∈ K a) :
    (ℓ ↦[S]{q} f : sProp 𝕄) ⊣⊢ holds (fun a => (ℓ ↦[K a]{q} f : sProp 𝕄)) l := by
  classical
  induction l generalizing S with
  | nil =>
    have e : S = ∅ := Finset.eq_empty_of_forall_notMem fun i hi => by
      obtain ⟨a, ha, -⟩ := (hS i).1 hi; exact absurd ha List.not_mem_nil
    subst e
    rw [pointsTo_empty]
    exact ⟨BI.Entails.refl _, BI.Entails.refl _⟩
  | cons a l ih =>
    obtain ⟨ha, hl⟩ := List.pairwise_cons.1 hd
    have hS' : ∀ i, i ∈ S \ K a ↔ ∃ b ∈ l, i ∈ K b := fun i => by
      rw [Finset.mem_sdiff, hS]
      constructor
      · rintro ⟨⟨b, hb, hi⟩, hn⟩
        rcases List.mem_cons.1 hb with rfl | hb
        · exact absurd hi hn
        · exact ⟨b, hb, hi⟩
      · rintro ⟨b, hb, hi⟩
        exact ⟨⟨b, List.mem_cons_of_mem _ hb, hi⟩, fun h => Finset.disjoint_left.1 (ha b hb) h hi⟩
    have hsub : K a ⊆ S := fun i hi => (hS i).2 ⟨a, List.mem_cons_self, hi⟩
    have h := pointsTo_split_subset (q := q) (f := f) hsub (Ix := Unit) (Name := ℕ) (U := UU) (Lvl := ℕ)
    have h2 := ih hl _ hS'
    exact ⟨h.1.trans (sep_mono_right h2.1), (sep_mono_right h2.2).trans h.2⟩

/-! ## The landing buffers -/

/-- The rows and halves of a row buffer. -/
def rh : List (Fin 4 × Fin 2) := (List.finRange 4).flatMap fun i => [(i, 0), (i, 1)]

theorem rh_nodup : rh.Nodup := by decide
theorem rh_mem (p : Fin 4 × Fin 2) : p ∈ rh := by revert p; decide

theorem col_cut (c : Dev nD) (f : Buf (Elt F) (cM.view.loc (c : Thread nD τ))) :
    (cM.view.loc (c : Thread nD τ) ↦[Finset.univ]{fullShare} f : sProp 𝕄)
      ⊣⊢ holds (fun k => (cM.view.loc (c : Thread nD τ) ↦[(colM k).view.set]{fullShare} f : sProp 𝕄)) (List.finRange 3) := by
  refine cut (ℓ := cM.view.loc (c : Thread nD τ)) (fun k => (colM k).view.set) fullShare f _
    ((List.nodup_finRange 3).pairwise_of_forall_ne fun a _ b _ hab => ?_) _ fun i => ?_
  · refine Finset.disjoint_left.2 fun i h h' => hab (Fin.ext ?_)
    rw [← ((mem_col a i).1 h).1, ← ((mem_col b i).1 h').1]
  · refine iff_of_true (Finset.mem_univ i) ⟨⟨(i 0).val, (i 0).isLt⟩, List.mem_finRange _, (mem_col _ i).2 ⟨rfl, ?_⟩⟩
    have := (i 1).isLt
    exact ⟨Nat.zero_le _, by rw [Nat.zero_add]; exact this⟩

theorem half_of (a : ℕ) (h : a < 128) : 64 * (⟨a / 64, by omega⟩ : Fin 2).val ≤ a ∧ a < 64 * (⟨a / 64, by omega⟩ : Fin 2).val + 64 := by
  show 64 * (a / 64) ≤ a ∧ a < 64 * (a / 64) + 64
  omega

theorem pf_cut (c : Dev nD) (f : Buf (Elt F) (pfM.view.loc (c : Thread nD τ))) :
    (pfM.view.loc (c : Thread nD τ) ↦[Finset.univ]{fullShare} f : sProp 𝕄)
      ⊣⊢ holds (fun p : Fin 4 × Fin 2 => (pfM.view.loc (c : Thread nD τ) ↦[(pfH p.1 p.2).view.set]{fullShare} f : sProp 𝕄)) rh := by
  refine cut (ℓ := pfM.view.loc (c : Thread nD τ)) (fun p : Fin 4 × Fin 2 => (pfH p.1 p.2).view.set) fullShare f _
    (rh_nodup.pairwise_of_forall_ne fun a _ b _ hab => ?_) _ fun i => ?_
  · refine Finset.disjoint_left.2 fun i h h' => hab ?_
    have h1 := (mem_pfH a.1 a.2 i).1 h; have h2 := (mem_pfH b.1 b.2 i).1 h'
    exact Prod.ext (Fin.ext (h1.1.symm.trans h2.1)) (Fin.ext (by omega))
  · exact iff_of_true (Finset.mem_univ i) ⟨(⟨(i 0).val, (i 0).isLt⟩, ⟨(i 1).val / 64, by have : (i 1).val < 128 := (i 1).isLt; omega⟩),
      rh_mem _, (mem_pfH _ _ i).2 ⟨rfl, half_of _ (i 1).isLt⟩⟩

theorem pb_cut (c : Dev nD) (f : Buf (Elt F) (pbM.view.loc (c : Thread nD τ))) :
    (pbM.view.loc (c : Thread nD τ) ↦[Finset.univ]{fullShare} f : sProp 𝕄)
      ⊣⊢ holds (fun p : Fin 4 × Fin 2 => (pbM.view.loc (c : Thread nD τ) ↦[(pbH p.1 p.2).view.set]{fullShare} f : sProp 𝕄)) rh := by
  refine cut (ℓ := pbM.view.loc (c : Thread nD τ)) (fun p : Fin 4 × Fin 2 => (pbH p.1 p.2).view.set) fullShare f _
    (rh_nodup.pairwise_of_forall_ne fun a _ b _ hab => ?_) _ fun i => ?_
  · refine Finset.disjoint_left.2 fun i h h' => hab ?_
    have h1 := (mem_pbH a.1 a.2 i).1 h; have h2 := (mem_pbH b.1 b.2 i).1 h'
    exact Prod.ext (Fin.ext (h1.1.symm.trans h2.1)) (Fin.ext (by omega))
  · exact iff_of_true (Finset.mem_univ i) ⟨(⟨(i 0).val, (i 0).isLt⟩, ⟨(i 1).val / 64, by have : (i 1).val < 128 := (i 1).isLt; omega⟩),
      rh_mem _, (mem_pbH _ _ i).2 ⟨rfl, half_of _ (i 1).isLt⟩⟩

theorem hf_cut (c : Dev nD) (f : Buf (Elt F) (hfM.view.loc (c : Thread nD τ))) :
    (hfM.view.loc (c : Thread nD τ) ↦[Finset.univ]{fullShare} f : sProp 𝕄)
      ⊣⊢ holds (fun k => (hfM.view.loc (c : Thread nD τ) ↦[(hfS k).view.set]{fullShare} f : sProp 𝕄)) (List.finRange 4) := by
  refine cut (ℓ := hfM.view.loc (c : Thread nD τ)) (fun k => (hfS k).view.set) fullShare f _
    ((List.nodup_finRange 4).pairwise_of_forall_ne fun a _ b _ hab => ?_) _ fun i => ?_
  · refine Finset.disjoint_left.2 fun i h h' => hab (Fin.ext ?_)
    rw [← ((mem_hf a i).1 h).1, ← ((mem_hf b i).1 h').1]
  · refine iff_of_true (Finset.mem_univ i) ⟨⟨(i 0).val, (i 0).isLt⟩, List.mem_finRange _, (mem_hf _ i).2 ⟨rfl, ?_⟩⟩
    have := (i 1).isLt
    exact ⟨Nat.zero_le _, by rw [Nat.zero_add]; exact this⟩

theorem hb_cut (c : Dev nD) (f : Buf (Elt F) (hbM.view.loc (c : Thread nD τ))) :
    (hbM.view.loc (c : Thread nD τ) ↦[Finset.univ]{fullShare} f : sProp 𝕄)
      ⊣⊢ holds (fun k => (hbM.view.loc (c : Thread nD τ) ↦[(hbS k).view.set]{fullShare} f : sProp 𝕄)) (List.finRange 4) := by
  refine cut (ℓ := hbM.view.loc (c : Thread nD τ)) (fun k => (hbS k).view.set) fullShare f _
    ((List.nodup_finRange 4).pairwise_of_forall_ne fun a _ b _ hab => ?_) _ fun i => ?_
  · refine Finset.disjoint_left.2 fun i h h' => hab (Fin.ext ?_)
    rw [← ((mem_hb a i).1 h).1, ← ((mem_hb b i).1 h').1]
  · refine iff_of_true (Finset.mem_univ i) ⟨⟨(i 0).val, (i 0).isLt⟩, List.mem_finRange _, (mem_hb _ i).2 ⟨rfl, ?_⟩⟩
    have := (i 1).isLt
    exact ⟨Nat.zero_le _, by rw [Nat.zero_add]; exact this⟩

/-- The five landing buffers, whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- The landing places, buffer by buffer. -/
def byBuf : List Rc :=
  (List.finRange 3).map .col ++ (rh.map (fun p => Rc.af p.1 p.2) ++ (rh.map (fun p => Rc.ab p.1 p.2)
    ++ ((List.finRange 4).map .bf ++ (List.finRange 4).map .bb)))

theorem byBuf_slots : byBuf.Perm (slotsOf 0 ++ (slotsOf 1 ++ (slotsOf 2 ++ (slotsOf 3 ++ slotsOf 4)))) := by decide +kernel
theorem allR_byBuf : allR.Perm byBuf := by decide +kernel

theorem raw_col (c : Dev nD) (k : Fin 3) (f : Buf (Elt F) (cM.view.loc (c : Thread nD τ))) :
    (cM.view.loc (c : Thread nD τ) ↦[(colM k).view.set]{fullShare} f : sProp 𝕄) ⊢ raw c (.col k) := by
  unfold raw; iintro H; iexists f; iexact H
theorem raw_af (c : Dev nD) (p : Fin 4 × Fin 2) (f : Buf (Elt F) (pfM.view.loc (c : Thread nD τ))) :
    (pfM.view.loc (c : Thread nD τ) ↦[(pfH p.1 p.2).view.set]{fullShare} f : sProp 𝕄) ⊢ raw c (.af p.1 p.2) := by
  unfold raw; iintro H; iexists f; iexact H
theorem raw_ab (c : Dev nD) (p : Fin 4 × Fin 2) (f : Buf (Elt F) (pbM.view.loc (c : Thread nD τ))) :
    (pbM.view.loc (c : Thread nD τ) ↦[(pbH p.1 p.2).view.set]{fullShare} f : sProp 𝕄) ⊢ raw c (.ab p.1 p.2) := by
  unfold raw; iintro H; iexists f; iexact H
theorem raw_bf (c : Dev nD) (k : Fin 4) (f : Buf (Elt F) (hfM.view.loc (c : Thread nD τ))) :
    (hfM.view.loc (c : Thread nD τ) ↦[(hfS k).view.set]{fullShare} f : sProp 𝕄) ⊢ raw c (.bf k) := by
  unfold raw; iintro H; iexists f; iexact H
theorem raw_bb (c : Dev nD) (k : Fin 4) (f : Buf (Elt F) (hbM.view.loc (c : Thread nD τ))) :
    (hbM.view.loc (c : Thread nD τ) ↦[(hbS k).view.set]{fullShare} f : sProp 𝕄) ⊢ raw c (.bb k) := by
  unfold raw; iintro H; iexists f; iexact H

/-- The landing buffers taken apart. -/
theorem scratch_raw (c : Dev nD) : scratch c ⊢ holds (raw (F := F) c) byBuf := by
  unfold scratch byBuf
  iintro ⟨⟨%f0, H0⟩, ⟨%f1, H1⟩, ⟨%f2, H2⟩, ⟨%f3, H3⟩, ⟨%f4, H4⟩⟩
  iapply (holds_append _ _ _).2
  isplitl [H0]
  · rw [holds_map]
    iapply ((col_cut c f0).1.trans (holds_mono fun k _ => raw_col c k f0)); iexact H0
  iapply (holds_append _ _ _).2
  isplitl [H1]
  · rw [holds_map]
    iapply ((pf_cut c f1).1.trans (holds_mono fun k _ => raw_af c k f1)); iexact H1
  iapply (holds_append _ _ _).2
  isplitl [H2]
  · rw [holds_map]
    iapply ((pb_cut c f2).1.trans (holds_mono fun k _ => raw_ab c k f2)); iexact H2
  iapply (holds_append _ _ _).2
  isplitl [H3]
  · rw [holds_map]
    iapply ((hf_cut c f3).1.trans (holds_mono fun k _ => raw_bf c k f3)); iexact H3
  · rw [holds_map]
    iapply ((hb_cut c f4).1.trans (holds_mono fun k _ => raw_bb c k f4)); iexact H4

variable (X : Blocks F)

theorem full_col_cut (c : Dev nD) :
    holds (full X c) ((List.finRange 3).map (fun k => Rc.col k)) ⊢ (((c : Thread nD τ).loc cc0_scratch0) ↦{fullShare} colB X c : sProp 𝕄) :=
  (Entails.of_eq (holds_map _ _ _)).trans (col_cut c (colB X c)).2
theorem full_pf_cut (c : Dev nD) :
    holds (full X c) (rh.map (fun p => Rc.af p.1 p.2)) ⊢ (((c : Thread nD τ).loc cc0_scratch1) ↦{fullShare} pfB X c : sProp 𝕄) :=
  (Entails.of_eq (holds_map _ _ _)).trans (pf_cut c (pfB X c)).2
theorem full_pb_cut (c : Dev nD) :
    holds (full X c) (rh.map (fun p => Rc.ab p.1 p.2)) ⊢ (((c : Thread nD τ).loc cc0_scratch2) ↦{fullShare} pbB X c : sProp 𝕄) :=
  (Entails.of_eq (holds_map _ _ _)).trans (pb_cut c (pbB X c)).2
theorem full_hf_cut (c : Dev nD) :
    holds (full X c) ((List.finRange 4).map (fun k => Rc.bf k)) ⊢ (((c : Thread nD τ).loc cc0_scratch3) ↦{fullShare} hfB X c : sProp 𝕄) :=
  (Entails.of_eq (holds_map _ _ _)).trans (hf_cut c (hfB X c)).2
theorem full_hb_cut (c : Dev nD) :
    holds (full X c) ((List.finRange 4).map (fun k => Rc.bb k)) ⊢ (((c : Thread nD τ).loc cc0_scratch4) ↦{fullShare} hbB X c : sProp 𝕄) :=
  (Entails.of_eq (holds_map _ _ _)).trans (hb_cut c (hbB X c)).2

/-- The landing buffers put together. -/
theorem full_scratch (c : Dev nD) : holds (full X c) byBuf ⊢ scratch c := by
  unfold scratch byBuf
  iintro H
  ihave H := (holds_append _ _ _).1 $$ H
  icases H with ⟨H0, H⟩
  ihave H := (holds_append _ _ _).1 $$ H
  icases H with ⟨H1, H⟩
  ihave H := (holds_append _ _ _).1 $$ H
  icases H with ⟨H2, H⟩
  ihave H := (holds_append _ _ _).1 $$ H
  icases H with ⟨H3, H4⟩
  isplitl [H0]
  · iexists (colB X c)
    iapply (full_col_cut X c); iexact H0
  isplitl [H1]
  · iexists (pfB X c)
    iapply (full_pf_cut X c); iexact H1
  isplitl [H2]
  · iexists (pbB X c)
    iapply (full_pb_cut X c); iexact H2
  isplitl [H3]
  · iexists (hfB X c)
    iapply (full_hf_cut X c); iexact H3
  · iexists (hbB X c)
    iapply (full_hb_cut X c); iexact H4

/-- The shares of a landing place put together. -/
theorem pieces_full (c : Dev nD) (r : Rc) : holds (res X c) (pieces r) ⊢ full X c r := by
  cases r with
  | col k =>
    show iprop(kept X c (.col k) ∗ lent X c (.af k.succ 0) ∗ lent X c (.af k.succ 1) ∗ lent X c (.ab k.succ 0)
      ∗ lent X c (.ab k.succ 1) ∗ emp) ⊢ _
    have h : iprop(lent X c (.af k.succ 0) ∗ lent X c (.af k.succ 1) ∗ lent X c (.ab k.succ 0) ∗ lent X c (.ab k.succ 1) ∗ emp)
        ⊢ ((colM k).view.loc (c : Thread nD τ) ↦[(colM k).view.set]{shR} colB X c : sProp 𝕄) := by
      iintro ⟨H1, H2, H3, H4, -⟩
      iapply (col_lent X c k).2
      isplitl [H1]; · iexact H1
      isplitl [H2]; · iexact H2
      isplitl [H3]; · iexact H3
      iexact H4
    exact (sep_mono_right h).trans (share_split _ _ _).2
  | af i h =>
    match h with
    | 0 =>
      show iprop(kept X c (.pf i 0) ∗ lent X c (.bf i) ∗ emp) ⊢ _
      exact BI.Entails.trans (sep_mono_right (sep_emp (PROP := sProp 𝕄)).1) (share_split _ _ _).2
    | 1 =>
      show iprop(kept X c (.pf i 1) ∗ kept X c (.pfR i) ∗ emp) ⊢ _
      exact BI.Entails.trans (sep_mono_right (sep_emp (PROP := sProp 𝕄)).1) (share_split _ _ _).2
  | ab i h =>
    match h with
    | 0 =>
      show iprop(kept X c (.pb i 0) ∗ kept X c (.pbR i) ∗ emp) ⊢ _
      exact BI.Entails.trans (sep_mono_right (sep_emp (PROP := sProp 𝕄)).1) (share_split _ _ _).2
    | 1 =>
      show iprop(kept X c (.pb i 1) ∗ lent X c (.bb i) ∗ emp) ⊢ _
      exact BI.Entails.trans (sep_mono_right (sep_emp (PROP := sProp 𝕄)).1) (share_split _ _ _).2
  | bf i => exact (sep_emp (PROP := sProp 𝕄)).1
  | bb i => exact (sep_emp (PROP := sProp 𝕄)).1

/-! ## The device's own block -/

theorem colS_share : ∀ z : Fin 4, ∀ k : Fin 3, ∃ i : Fin 6, colS z.val k = .col i ∧ kOf i = k := by decide

theorem lent_colS (c : Dev nD) (k : Fin 3) :
    lent X c (colS (row c) k)
      = (xM.view.loc (c : Thread nD τ) ↦[Finset.univ]{![shL.right.left, shL.right.right.left, shL.right.right.right] k} xB X c : sProp 𝕄) := by
  obtain ⟨i, hi, hk⟩ := colS_share (rowF c) k
  rw [show colS (row c) k = .col i from hi, ← hk]
  unfold lent
  show (xM.view.loc (c : Thread nD τ) ↦[xM.view.set]{shr (.col i)} xB X c : sProp 𝕄) = _
  rw [show xM.view.set = Finset.univ from View.set_whole _]
  rfl

/-- The block by shares: one kept, three for the column, two by halves for the row. -/
theorem x_cut (c : Dev nD) :
    (xM.view.loc (c : Thread nD τ) ↦[Finset.univ]{fullShare} xB X c : sProp 𝕄)
      ⊣⊢ iprop(kept X c .x ∗ holds (lent X c) (ownSrc (row c))) := by
  have hh : ∀ q : PosShare TreeShare, (xM.view.loc (c : Thread nD τ) ↦[Finset.univ]{q} xB X c : sProp 𝕄)
      ⊣⊢ iprop((xM.view.loc (c : Thread nD τ) ↦[(xH 0).view.set]{q} xB X c)
        ∗ (xM.view.loc (c : Thread nD τ) ↦[(xH 1).view.set]{q} xB X c)) := fun q => by
    rw [show (Finset.univ : Finset (Idx (xM.view.loc (c : Thread nD τ)))) = (xH 0).view.set ∪ (xH 1).view.set from x_halves]
    exact pointsTo_union (ℓ := xM.view.loc (c : Thread nD τ)) x_disj
  have hs := fun q : PosShare TreeShare => share_split (ℓ := xM.view.loc (c : Thread nD τ)) Finset.univ q (xB X c)
  show _ ⊣⊢ iprop(kept X c .x ∗ lent X c (colS (row c) 0) ∗ lent X c (colS (row c) 1) ∗ lent X c (colS (row c) 2)
    ∗ (xM.view.loc (c : Thread nD τ) ↦[(xH 0).view.set]{shR.left} xB X c)
    ∗ (xM.view.loc (c : Thread nD τ) ↦[(xH 1).view.set]{shR.left} xB X c)
    ∗ (xM.view.loc (c : Thread nD τ) ↦[(xH 0).view.set]{shR.right} xB X c)
    ∗ (xM.view.loc (c : Thread nD τ) ↦[(xH 1).view.set]{shR.right} xB X c) ∗ emp)
  rw [lent_colS, lent_colS, lent_colS]
  show _ ⊣⊢ iprop((xM.view.loc (c : Thread nD τ) ↦[Finset.univ]{shL.left} xB X c)
    ∗ (xM.view.loc (c : Thread nD τ) ↦[Finset.univ]{shL.right.left} xB X c)
    ∗ (xM.view.loc (c : Thread nD τ) ↦[Finset.univ]{shL.right.right.left} xB X c)
    ∗ (xM.view.loc (c : Thread nD τ) ↦[Finset.univ]{shL.right.right.right} xB X c)
    ∗ _ ∗ _ ∗ _ ∗ _ ∗ emp)
  constructor
  · iintro H
    ihave H := (hs fullShare).1 $$ H
    icases H with ⟨HL, HR⟩
    ihave H := (hs shL).1 $$ HL
    icases H with ⟨H1, HL⟩
    isplitl [H1]; · iexact H1
    ihave H := (hs shL.right).1 $$ HL
    icases H with ⟨H1, HL⟩
    isplitl [H1]; · iexact H1
    ihave H := (hs shL.right.right).1 $$ HL
    icases H with ⟨H1, HL⟩
    isplitl [H1]; · iexact H1
    isplitl [HL]; · iexact HL
    ihave H := (hs shR).1 $$ HR
    icases H with ⟨H1, HR⟩
    ihave H := (hh shR.left).1 $$ H1
    icases H with ⟨H1, H2⟩
    isplitl [H1]; · iexact H1
    isplitl [H2]; · iexact H2
    ihave H := (hh shR.right).1 $$ HR
    icases H with ⟨H1, H2⟩
    isplitl [H1]; · iexact H1
    isplitl [H2]; · iexact H2
    iempintro
  · iintro ⟨H1, H2, H3, H4, H5, H6, H7, H8, -⟩
    iapply (hs fullShare).2
    isplitl [H1 H2 H3 H4]
    · iapply (hs shL).2
      isplitl [H1]; · iexact H1
      iapply (hs shL.right).2
      isplitl [H2]; · iexact H2
      iapply (hs shL.right.right).2
      isplitl [H3]; · iexact H3
      iexact H4
    · iapply (hs shR).2
      isplitl [H5 H6]
      · iapply (hh shR.left).2
        isplitl [H5]; · iexact H5
        iexact H6
      · iapply (hh shR.right).2
        isplitl [H7]; · iexact H7
        iexact H8

/-! ## The semaphores at the end -/

theorem done_close (K : Dev nD × Ce → ℕ) (c : Dev nD) (x : Ce) :
    iprop(records X K ∗ res X c (.don x)) ⊢ (|={Set.univ}=> semVal (gc c x) 0 : sProp 𝕄) := by
  show iprop(records X K ∗ ∃ R, ⌜∀ r, R ≤ r → (Rd X).duties (gc c x) r = ∅⌝ ∗ atPos ER (gc c x) R ∅ 0) ⊢ _
  iintro ⟨HR, ⟨%R, %hR, Hat⟩⟩
  ihave H := (records_at X K c x) $$ HR
  icases H with ⟨HI, -⟩
  iapply (Rounds.cell_close ER (Rd X) (Set.mem_univ (K (c, x))) (fun h => h) (R := R) hR)
  isplitl [HI]; · iexact HI
  iexact Hat

theorem all_close (K : Dev nD × Ce → ℕ) (c : Dev nD) (l : List Ce) :
    iprop(records X K ∗ holds (fun x => res X c (.don x)) l) ⊢ (|={Set.univ}=> holds (fun x => semVal (gc c x) 0) l : sProp 𝕄) := by
  induction l with
  | nil =>
    rw [show holds (fun x => (semVal (gc c x) 0 : sProp 𝕄)) [] = iprop(emp) from rfl]
    iintro ⟨-, -⟩
    imodintro
    iempintro
  | cons x l ih =>
    rw [show holds (fun x => res X c (.don x)) (x :: l) = iprop(res X c (.don x) ∗ holds (fun x => res X c (.don x)) l) from rfl]
    rw [show holds (fun x => (semVal (gc c x) 0 : sProp 𝕄)) (x :: l) = iprop(semVal (gc c x) 0 ∗ holds (fun x => semVal (gc c x) 0) l) from rfl]
    iintro ⟨#HR, Hx, Hl⟩
    imod (done_close X K c x) $$ [Hx] with Hx
    · isplitr; · iexact HR
      iexact Hx
    imod ih $$ [Hl] with Hl
    · isplitr; · iexact HR
      iexact Hl
    imodintro
    isplitl [Hx]; · iexact Hx
    iexact Hl

/-! ## The end -/

theorem finish_parts (z : Fin 4) :
    (finish z.val).Perm (allC.map .don ++ ((ownSrc z.val).map .src ++ ([.keep .x] ++ byBuf.flatMap pieces))) := by
  revert z; decide +kernel

/-- What a device ends with, put together. -/
theorem finish_end (K : Dev nD × Ce → ℕ) (c : Dev nD) :
    iprop(records X K ∗ holds (res X c) (finish (row c)))
      ⊢ |={Set.univ}=> iprop(holds (fun x => semVal (gc c x) 0) allC ∗ (xM.view.loc (c : Thread nD τ) ↦[Finset.univ]{fullShare} xB X c) ∗ scratch c) := by
  iintro ⟨#HR, H⟩
  ihave H := (holds_perm (res X c) (show (finish (row c)).Perm _ from finish_parts (rowF c))) $$ H
  ihave H := (holds_append _ _ _).1 $$ H
  icases H with ⟨Hd, H⟩
  ihave H := (holds_append _ _ _).1 $$ H
  icases H with ⟨Hs, H⟩
  ihave H := (holds_append _ _ _).1 $$ H
  icases H with ⟨Hx, Hp⟩
  ihave Hp := ((holds_flatMap _ _ _).trans (holds_mono fun r _ => pieces_full X c r)) $$ Hp
  ihave Hp := (full_scratch X c) $$ Hp
  ihave Hd := (Entails.of_eq (holds_map (res X c) Tok.don allC)) $$ Hd
  ihave Hs := (Entails.of_eq (holds_map (res X c) Tok.src (ownSrc (rowF c).val))) $$ Hs
  imod (all_close X K c allC) $$ [Hd] with Hd
  · isplitr; · iexact HR
    iexact Hd
  imodintro
  isplitl [Hd]; · iexact Hd
  isplitr [Hp]
  · iapply (x_cut X c).2
    isplitl [Hx]
    · iapply (show holds (res X c) [.keep .x] ⊢ kept X c .x from (sep_emp (PROP := sProp 𝕄)).1)
      iexact Hx
    · iexact Hs
  · iexact Hp

/-! ## The start -/

/-- What the launch deals a device: its place at every semaphore, the credit for what it is to get, and
    the rights to pay what it owes. -/
def dealt (c : Dev nD) : sProp 𝕄 :=
  iprop(holds (fun x => atPos ER (gc c x) 0 ∅ 0) allC
    ∗ (cred (tallyAt (gc c .bar) () 5) ∗ holds (fun r => cred (tallyAt (gc c (.R r)) () (amt (.R r)))) allR)
    ∗ holds (fun j => dutyTok ER (gc (sigDev j c) .bar) 0 j) (List.finRange 5)
    ∗ holds (fun s => iprop(dutyTok ER (gc c (.S s)) 0 0 ∗ dutyTok ER (gc (tgt s c) (.R s.rc)) 0 0)) (allS.filter fun s => active (row c) s))

theorem allC_parts (z : Fin 4) :
    allC.Perm ([Ce.bar] ++ ((allS.filter fun s => active z.val s).map Ce.S ++ ((allS.filter fun s => !active z.val s).map Ce.S ++ allR.map Ce.R))) := by
  revert z; decide +kernel

theorem start_parts (z : Fin 4) :
    ((List.finRange 5).map Tok.sigd ++ ([Tok.atBar] ++ ((allS.filter fun s => active z.val s).map Tok.rdy
      ++ ((allS.filter fun s => !active z.val s).map (fun s => Tok.don (.S s)) ++ (allR.map Tok.exp
      ++ ((ownSrc z.val).map Tok.src ++ [Tok.keep .x])))))).Perm (start z.val) := by
  revert z; decide +kernel

theorem idle (c : Dev nD) (s : Sd) (h : (!active (row c) s) = true) :
    (atPos ER (gc c (.S s)) 0 ∅ 0 : sProp 𝕄) ⊢ res X c (.don (.S s)) := by
  show _ ⊢ iprop(∃ R, ⌜∀ r, R ≤ r → (Rd X).duties (gc c (.S s)) r = ∅⌝ ∗ atPos ER (gc c (.S s)) R ∅ 0)
  iintro H
  iexists 0
  isplitr
  · ipureintro
    intro r _
    rcases Nat.eq_zero_or_pos r with rfl | hr
    · rw [duties_gc, dutiesOf, if_neg (by simpa using h)]
    · exact duties_later X _ r hr
  · iexact H

theorem dealt_start (c : Dev nD) :
    iprop(dealt c ∗ scratch c ∗ (xM.view.loc (c : Thread nD τ) ↦[Finset.univ]{fullShare} xB X c)) ⊢ holds (res X c) (start (row c)) := by
  unfold dealt
  iintro ⟨⟨Hat, ⟨HcB, HcR⟩, Hbar, Htok⟩, Hscr, Hx⟩
  ihave Hat := (holds_perm (fun x => (atPos ER (gc c x) 0 ∅ 0 : sProp 𝕄)) (allC_parts (rowF c))) $$ Hat
  ihave Hat := (holds_append _ _ _).1 $$ Hat
  icases Hat with ⟨HaB, Hat⟩
  ihave Hat := (holds_append _ _ _).1 $$ Hat
  icases Hat with ⟨HaA, Hat⟩
  ihave Hat := (holds_append _ _ _).1 $$ Hat
  icases Hat with ⟨HaI, HaR⟩
  ihave HaA := (Entails.of_eq (holds_map _ _ _)) $$ HaA
  ihave HaI := (Entails.of_eq (holds_map _ _ _)) $$ HaI
  ihave HaR := (Entails.of_eq (holds_map _ _ _)) $$ HaR
  ihave Hx := (x_cut X c).1 $$ Hx
  icases Hx with ⟨Hk, Hs⟩
  ihave Hscr := ((scratch_raw c).trans (holds_perm _ byBuf_slots)) $$ Hscr
  iapply (holds_perm (res X c) (show List.Perm _ (start (row c)) from start_parts (rowF c)))
  iapply (holds_append _ _ _).2
  isplitl [Hbar Hscr]
  · rw [holds_map]
    iapply (holds_unsep (fun j => dutyTok ER (gc (sigDev j c) .bar) 0 j) (fun j => holds (raw c) (slotsOf j)) (List.finRange 5))
    isplitl [Hbar]; · iexact Hbar
    iapply (show holds (raw (F := F) c) (slotsOf 0 ++ (slotsOf 1 ++ (slotsOf 2 ++ (slotsOf 3 ++ slotsOf 4))))
      ⊢ holds (fun j => holds (raw c) (slotsOf j)) (List.finRange 5) from by
        rw [show List.finRange 5 = [0, 1, 2, 3, 4] from rfl]
        exact (holds_append _ _ _).1.trans (sep_mono_right ((holds_append _ _ _).1.trans (sep_mono_right ((holds_append _ _ _).1.trans
          (sep_mono_right ((holds_append _ _ _).1.trans (sep_mono_right (sep_emp (PROP := sProp 𝕄)).2))))))))
    iexact Hscr
  iapply (holds_append _ _ _).2
  isplitl [HcB HaB]
  · iapply (show iprop(cred (tallyAt (gc c .bar) () 5) ∗ holds (fun x => (atPos ER (gc c x) 0 ∅ 0 : sProp 𝕄)) [Ce.bar])
      ⊢ holds (res X c) [.atBar] from
        (sep_mono_right (sep_emp (PROP := sProp 𝕄)).1).trans (sep_emp (PROP := sProp 𝕄)).2)
    isplitl [HcB]; · iexact HcB
    iexact HaB
  iapply (holds_append _ _ _).2
  isplitl [HaA Htok]
  · rw [holds_map]
    iapply ((holds_unsep (fun s => iprop(dutyTok ER (gc c (.S s)) 0 0 ∗ dutyTok ER (gc (tgt s c) (.R s.rc)) 0 0))
      (fun s => (atPos ER (gc c (.S s)) 0 ∅ 0 : sProp 𝕄)) _).trans (holds_mono fun s _ => sep_assoc.1))
    isplitl [Htok]; · iexact Htok
    iexact HaA
  iapply (holds_append _ _ _).2
  isplitl [HaI]
  · rw [holds_map]
    iapply (holds_mono (P := fun s => (atPos ER (gc c (.S s)) 0 ∅ 0 : sProp 𝕄)) (Q := fun s => res X c (.don (.S s)))
      (l := allS.filter fun s => !active (row c) s) fun s hs => idle X c s (List.mem_filter.1 hs).2)
    iexact HaI
  iapply (holds_append _ _ _).2
  isplitl [HaR HcR]
  · rw [holds_map]
    iapply (holds_unsep (fun r => (cred (tallyAt (gc c (.R r)) () (amt (.R r))) : sProp 𝕄)) (fun r => atPos ER (gc c (.R r)) 0 ∅ 0) allR)
    isplitl [HcR]; · iexact HcR
    iexact HaR
  iapply (holds_append _ _ _).2
  isplitl [Hs]
  · rw [holds_map]
    iexact Hs
  · iapply (show kept X c .x ⊢ holds (res X c) [.keep .x] from (sep_emp (PROP := sProp 𝕄)).2)
    iexact Hk

/-! ## The result at the end -/

theorem all_rows : ∀ c : Dev nD, ∀ b : Fin 32, ∃ q ∈ addPs (shape (row c)) [],
    128 * (blk c q).val + low q ≤ 64 * b.val ∧ 64 * b.val + 64 ≤ 128 * (blk c q).val + low q + q.ext 0 := by
  decide +kernel

theorem outR_covers (c : Dev nD) (i : S2048x128.Idx) : ∃ q ∈ addPs (shape (row c)) [], i ∈ (outR c q).set := by
  have h0 : (i 0).val < 2048 := (i 0).isLt
  obtain ⟨q, hq, h1, h2⟩ := all_rows c ⟨(i 0).val / 64, by omega⟩
  refine ⟨q, hq, ?_⟩
  obtain ⟨o0, o1⟩ := off_facts c q
  rw [Rect.mem_set_unit]
  intro x
  match x with
  | 0 =>
    rw [o0]
    have h1' : 128 * (blk c q).val + low q ≤ 64 * ((i 0).val / 64) := h1
    have h2' : 64 * ((i 0).val / 64) + 64 ≤ 128 * (blk c q).val + low q + q.ext 0 := h2
    omega
  | 1 =>
    rw [o1]
    have : (i 1).val < 128 := (i 1).isLt
    have e : q.ext 1 = 128 := by cases q <;> rfl
    omega

theorem outPts_end (w : FVec F S2048x128 .bf16) (c : Dev nD) :
    outPts X w c (addPs (shape (row c)) [])
      ⊢ (((c : Thread nD τ).loc cc0_stg2_0) ↦{fullShare} (outAt X w c : Buf (Elt F) ((c : Thread nD τ).loc cc0_stg2_0)) : sProp 𝕄) := by
  unfold outPts
  iintro ⟨%f, %hf, H⟩
  have e : f = (outAt X w c : Buf (Elt F) ((c : Thread nD τ).loc cc0_stg2_0)) := funext fun i => by
    obtain ⟨q, hq, hi⟩ := outR_covers c i
    exact hf q hq i hi
  rw [← e]
  iexact H

end Cert.Run
-- ==== Proof.Body.lean ====
/-
# The printed body is its list of acts

Once a device has read its own index the twelve conditions of the text are settled by its row, and what
is left is the list of acts of `acts`.
-/
module

public import proofs.«01_k».proof.Proof.Acts

@[expose] public section

noncomputable section

namespace Cert.Run

open Cert.KernelIdeal Cert.KernelIdeal.Gen
open Idealize.ShloMosaic Idealize.ShloMosaic.TcCoe
open Idealize.SL Idealize.SL.RA Idealize.SL.BI
open Idealize.SL.Sem

variable {F : FTy → Type} [FloatOps F]

/-- The body as the kernel's launch runs it. -/
abbrev bodyP : KP (F := F) PUnit :=
  cc0_body xM (Memref.isWhole_whole _) wM (Memref.isWhole_whole _) oM (Memref.isWhole_whole _)
    cM (Memref.isWhole_whole _) pfM (Memref.isWhole_whole _) pbM (Memref.isWhole_whole _)
    hfM (Memref.isWhole_whole _) hbM (Memref.isWhole_whole _)
    cc0_scratch5 cc0_scratch6 cc0_scratch7 cc0_scratch8 cc0_scratch9 cc0_scratch10 cc0_scratch11 cc0_scratch12
    cc0_scratch13 cc0_scratch14

/-- What is left of a program once it has read which device it runs on. -/
def after {α : Type} (c : Dev nD) : KP (F := F) α → KP (F := F) α
  | .op .deviceId k => k c
  | p => p

/-- A device's program: read the weights, then the acts. -/
def devP (c : Dev nD) (l : List Act) : KP (F := F) PUnit :=
  .op (.load wM (Rect.unit (s := S2048x128) ![0, 0] S2048x128.size inb_S2048x128_S2048x128_0_0).toLoadRect
    (View.loadsAt_vmem h_S2048x128)) fun v => run c (k0_pay7 v) l

theorem op_congr {α β : Type} {e e' : TpuEff nD τ sig (Elt F) Λ₀ .tc β} {k k' : β → KP (F := F) α} (he : e = e')
    (hk : ∀ b, k b = k' b) : Prog.op e k = Prog.op e' k' := by
  cases he; rw [funext hk]

/-- The twelve conditions of the text, by the device's row. -/
theorem conds (c : Dev nD) :
    (k0_cond1 c = 1#1 ∧ k0_cond2 c = 0#1 ∧ k0_cond3 c = 1#1 ∧ k0_cond4 c = 0#1 ∧ k0_cond5 c = 1#1 ∧ k0_cond6 c = 0#1 ∧ k0_cond7 c = 0#1 ∧ k0_cond8 c = 1#1 ∧ k0_cond9 c = 0#1 ∧ k0_cond10 c = 1#1 ∧ k0_cond11 c = 0#1 ∧ k0_cond12 c = 1#1)
    ∨ (k0_cond1 c = 1#1 ∧ k0_cond2 c = 1#1 ∧ k0_cond3 c = 1#1 ∧ k0_cond4 c = 0#1 ∧ k0_cond5 c = 0#1 ∧ k0_cond6 c = 0#1 ∧ k0_cond7 c = 1#1 ∧ k0_cond8 c = 1#1 ∧ k0_cond9 c = 0#1 ∧ k0_cond10 c = 1#1 ∧ k0_cond11 c = 0#1 ∧ k0_cond12 c = 0#1)
    ∨ (k0_cond1 c = 1#1 ∧ k0_cond2 c = 1#1 ∧ k0_cond3 c = 0#1 ∧ k0_cond4 c = 1#1 ∧ k0_cond5 c = 0#1 ∧ k0_cond6 c = 0#1 ∧ k0_cond7 c = 1#1 ∧ k0_cond8 c = 1#1 ∧ k0_cond9 c = 1#1 ∧ k0_cond10 c = 0#1 ∧ k0_cond11 c = 0#1 ∧ k0_cond12 c = 0#1)
    ∨ (k0_cond1 c = 0#1 ∧ k0_cond2 c = 1#1 ∧ k0_cond3 c = 0#1 ∧ k0_cond4 c = 1#1 ∧ k0_cond5 c = 0#1 ∧ k0_cond6 c = 1#1 ∧ k0_cond7 c = 1#1 ∧ k0_cond8 c = 0#1 ∧ k0_cond9 c = 1#1 ∧ k0_cond10 c = 0#1 ∧ k0_cond11 c = 1#1 ∧ k0_cond12 c = 0#1) := by
  revert c; decide +kernel

theorem zero_ne_one : ((0#1 : BitVec 1) = 1#1) = False := by decide

set_option maxRecDepth 65536 in
set_option maxHeartbeats 8000000 in
/-- Past its index, the printed body reads the weights and then runs the acts. -/
theorem after_body (c : Dev nD) : after c (bodyP (F := F)) = devP c (acts c) := by
  obtain h | h | h | h := conds c <;>
  · obtain ⟨h1, h2, h3, h4, h5, h6, h7, h8, h9, h10, h11, h12⟩ := h
    have e1 := h1; have e2 := h2; have e3 := h3; have e4 := h4; have e5 := h5; have e6 := h6
    simp only [k0_cond1] at e1
    simp only [k0_cond2] at e2
    simp only [k0_cond3] at e3
    simp only [k0_cond4] at e4
    simp only [k0_cond5] at e5
    simp only [k0_cond6] at e6
    simp only [bodyP, cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel,
      Prog.lift, Prog.bind_op, Prog.bind_ret, Prog.pure_eq_ret, after, acts, actsSend, actsCols, actsBack,
      e1, e2, e3, e4, e5, e6, h1, h2, h3, h4, h5, h6, h7, h8, h9, h10, h11, h12, zero_ne_one, dif_pos, dif_neg,
      if_pos, if_neg, not_false_iff, List.nil_append, List.append_nil]
    unfold devP
    repeat refine op_congr rfl fun _ => ?_
    rfl

/-- The printed body first reads the device's index. -/
theorem body_eq : bodyP (F := F) = .op .deviceId fun c => after c (bodyP (F := F)) := rfl

end Cert.Run
-- ==== Proof.Oblig.lean ====
/-
# One device's whole body

From what the launch deals a device and its staged blocks, the body runs to its end: the result's staging
buffer holds the products, the landing buffers are whole again, and every semaphore is at zero.
-/
module

public import proofs.«01_k».proof.Proof.Ends
public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- Each device's block, as staged. -/
def xstg : Blocks F := fun c =>
  (win0_0.blk (0 : Fin 1)).view.read (Elt F) ((s₀ m ρ).mem ((c : Thread nD τ).loc main_arg0))

/-- Each device's weights, as staged. -/
def wstg (c : Dev nD) : (cc0_stg1_0 : Ref sig .tc).ty.Contents (Elt F) :=
  (win0_1.blk (0 : Fin 1)).view.read (Elt F) ((s₀ m ρ).mem ((c : Thread nD τ).loc main_arg1))

/-- Each device's result, as staged. -/
def ostg (c : Dev nD) : (cc0_stg2_0 : Ref sig .tc).ty.Contents (Elt F) := outAt (xstg m ρ) (k0_pay7 (wstg m ρ c)) c

/-- What a device owes at the start. -/
def O₀ (c : Dev nD) : CellTallies nD τ sig Unit := owe c (debts (shape (row c)))

/-- What the launch makes of a device's share: the records of every semaphore, and what it is dealt. -/
def begun (c : Dev nD) : sProp 𝕄 := iprop(∃ K, ctx (xstg m ρ) K ∗ dealt c)

def Φ₀ (c : Dev nD) : sProp 𝕄 := iprop(begun m ρ c ∗ scratch c)
def Φ₁ (c : Dev nD) : sProp 𝕄 := iprop(holds (fun x => semVal (gc c x) 0) allC ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => ostg m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev t₀ : Fin cfg0.N := t0_0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem hz : (![0, 0] : Fin 2 → Nat) = fun _ => 0 := funext fun a => by fin_cases a <;> rfl

theorem read_w (f : (cc0_stg1_0 : Ref sig .tc).ty.Contents (Elt F)) :
    (wM : Memref sig .tc .vmem S2048x128 .bf16).view.readAt (Elt F)
      (Rect.unit (s := S2048x128) ![0, 0] S2048x128.size inb_S2048x128_S2048x128_0_0).toLoadRect f = f :=
  Memref.readAt_unit_zero (Elt F) cc0_stg1_0 hz _ f

/-- The device's acts, run from what it starts with to what it ends with. -/
theorem sound_acts (K : Dev nD × Ce → ℕ) (c : Dev nD) (X : Blocks F) (w : FVec F S2048x128 .bf16) (f : Buf (Elt F) ((c : Thread nD τ).loc cc0_stg2_0))
    (Q : PUnit → sProp 𝕄) :
    iprop(ctx X K ∗ dealt c ∗ scratch c ∗ (xM.view.loc (c : Thread nD τ) ↦[Finset.univ]{fullShare} xB X c)
        ∗ ow c (debts (shape (row c))) ∗ (((c : Thread nD τ).loc cc0_stg2_0) ↦{fullShare} f))
      ⊢ iprop(((holds (fun x => semVal (gc c x) 0) allC ∗ scratch c ∗ (xM.view.loc (c : Thread nD τ) ↦[Finset.univ]{fullShare} xB X c)
          ∗ ow c [] ∗ (((c : Thread nD τ).loc cc0_stg2_0) ↦{fullShare} (outAt X w c : Buf (Elt F) ((c : Thread nD τ).loc cc0_stg2_0)))) -∗ WP c (.ret ⟨⟩) Q)
          -∗ WP c (run c w (acts c)) Q) := by
  obtain ⟨Sf, hSf, hend⟩ := Option.bind_eq_some_iff.1 (check_shape (rowF c))
  have hch : check (row c) ((acts c).map Act.sh) (start (row c)) = some Sf := by rw [acts_sh]; exact hSf
  have hend' : take (finish (row c)) Sf = some [] := hend
  iintro ⟨#Hc, Hd, Hscr, Hx, HO, Hout⟩ Hk
  ihave HS := (dealt_start X c) $$ [Hd Hscr Hx]
  · isplitl [Hd]; · iexact Hd
    isplitl [Hscr]; · iexact Hscr
    iexact Hx
  iapply (run_spec X w K c (acts c) (acts_ok c) (start (row c)) Sf [] hch Q) $$ [HS HO Hout] [Hk]
  · rw [acts_sh]
    isplitr; · iexact Hc
    isplitl [HS]; · iexact HS
    isplitl [HO]; · iexact HO
    unfold outPts
    iexists f
    isplitr
    · ipureintro; intro q hq; exact absurd hq List.not_mem_nil
    · iexact Hout
  · rw [acts_sh]
    iintro ⟨HS, HO, Hout⟩
    ihave HS := (take_holds (res X c) _ _ _ hend') $$ HS
    icases HS with ⟨HS, -⟩
    ihave Hout := (outPts_end X w c) $$ Hout
    icases Hc with ⟨#HR, -⟩
    imod (finish_end X K c) $$ [HS] with ⟨Hz, Hx, Hscr⟩
    · isplitr; · iexact HR
      iexact HS
    iapply Hk
    isplitl [Hz]; · iexact Hz
    isplitl [Hscr]; · iexact Hscr
    isplitl [Hx]; · iexact Hx
    isplitl [HO]; · iexact HO
    iexact Hout

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ
    ∗ stg c cc0_stg0_0 (xstg m ρ c) ∗ stg c cc0_stg1_0 (wstg m ρ c) ∗ stg c cc0_stg2_0 (ostg m ρ c))

/-- The body from what it is given to what it leaves. -/
theorem sound_body (c : Dev nD) :
    bodyPre m ρ c ⊢ wp frame (wpE (defs₀ (F := F)) 𝒱₀ (c : Thread nD τ) none) Set.univ (bodyP (F := F)) (fun _ => bodyPost m ρ c) := by
  rw [body_eq, wp_deviceId, after_body]
  unfold bodyPre Φ₀ begun devP
  iintro ⟨⟨⟨%K, #Hc, Hd⟩, Hscr⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch_0 t₀)]; rfl
  subst hx
  have hw : g1 = wstg m ρ c := by rw [hg1]; unfold Dat.before; rw [if_pos (fetch_1 t₀)]; rfl
  subst hw
  unfold Dat.owesAt Pipeline.owesWithin
  icases Ho with ⟨%W, %hW, HO⟩
  rw [show (dats m ρ 0 c).owed t₀.castSucc = owe c (debts (shape (row c))) from rfl]
  iapply (wp_load 𝒱₀ (c : Thread nD τ) none Set.univ (m := wM) (Finset.subset_univ _)) $$ Hw; iintro Hw
  rw [read_w]
  iapply (sound_acts K c (xstg m ρ) (k0_pay7 (wstg m ρ c)) g2 (fun _ => bodyPost m ρ c)) $$ [Hd Hscr Hx HO Hout] [Hw]
  · isplitr; · iexact Hc
    isplitl [Hd]; · iexact Hd
    isplitl [Hscr]; · iexact Hscr
    isplitl [Hx]; · iexact Hx
    isplitl [HO]
    · unfold ow; iexists W; iexact HO
    · iexact Hout
  · iintro ⟨Hz, Hscr, Hx, HO, Hout⟩
    unfold WP; rw [wp_ret]; imodintro
    unfold bodyPost Φ₁ Dat.owesAt Pipeline.owesWithin ow
    rw [show (dats m ρ 0 c).owed t₀.succ = owe c [] from rfl]
    icases HO with ⟨%W', HO⟩
    isplitl [Hz Hscr]
    · isplitl [Hz]; · iexact Hz
      iexact Hscr
    isplitl [HO]
    · iexists W'
      isplitr; · ipureintro; exact fun _ _ => Or.inl trivial
      iexact HO
    isplitl [Hx]
    · iexists _; isplitr; · (ipureintro; rfl)
      iexact Hx
    isplitl [Hw]
    · iexists _; isplitr; · (ipureintro; rfl)
      iexact Hw
    iexists _; isplitr; · (ipureintro; rfl)
    iexact Hout

set_option maxRecDepth 4000 in
/-- What the launch asks of the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (bodyP (F := F)) (fun _ => bodyPost m ρ c)
  exact sound_body m ρ c

end Cert.Run
-- ==== Proof.Deal.lean ====
/-
# What the launch deals out

Every device's tokens are the rights to pay what it owes. The credit each semaphore starts with is what the
devices together owe it: five units at each barrier, one copy at each landing place.
-/
module

public import proofs.«01_k».proof.Proof.Oblig

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The semaphores -/

/-- The kernel's own copy semaphores. -/
abbrev osem : Fin 57 → SemLoc sig := fun k => .dma ⟨3 + k.val, by show _ < 60; omega⟩

theorem ownSemFacts : Pipeline.OwnSemFacts cfg0.spec osem := by decide +kernel

theorem cel_perm : ((allS.map Ce.S ++ allR.map Ce.R).map cel).Perm ((List.finRange 57).map osem) := by decide +kernel

theorem allC_bar : allC.Perm ([Ce.bar] ++ (allS.map Ce.S ++ allR.map Ce.R)) := by decide +kernel

theorem unscopedSems0_eq (c : Dev nD) : (unscopedSems0 c : sProp 𝕄) = semVal (gc c .bar) 0 := by
  unfold unscopedSems0; rw [bigSep_eq_bigSepL_of_eq [SemLoc.reg barS] (by decide) (by decide)]; rfl

theorem ownSems0_holds (c : Dev nD) :
    (Pipeline.ownSems0 (Ix := Unit) (Name := ℕ) (U := UU) (Lvl := ℕ) (Val := Elt F) (τ := τ) osem c : sProp 𝕄)
      = holds (fun sm => semVal ((c : Thread nD τ), sm) 0) ((List.finRange 57).map osem) := by
  unfold Pipeline.ownSems0
  rw [bigSep_univ_holds _ (List.finRange 57) (List.nodup_finRange 57) (List.mem_finRange), holds_map]

/-- Every semaphore of the protocol at zero, as the launch says it. -/
theorem sems_iff (c : Dev nD) :
    iprop(unscopedSems0 c ∗ Pipeline.ownSems0 (Ix := Unit) (Name := ℕ) (U := UU) (Lvl := ℕ) (Val := Elt F) (τ := τ) osem c)
      ⊣⊢ (holds (fun x => semVal (gc c x) 0) allC : sProp 𝕄) := by
  rw [unscopedSems0_eq, ownSems0_holds]
  have h : holds (fun sm => (semVal ((c : Thread nD τ), sm) 0 : sProp 𝕄)) ((allS.map Ce.S ++ allR.map Ce.R).map cel)
      = holds (fun x => semVal (gc c x) 0) (allS.map Ce.S ++ allR.map Ce.R) := holds_map _ _ _
  constructor
  · iintro ⟨HB, HO⟩
    iapply (holds_perm _ allC_bar.symm)
    iapply (holds_append _ _ _).2
    isplitl [HB]
    · iapply (show (semVal (gc c .bar) 0 : sProp 𝕄) ⊢ holds (fun x => semVal (gc c x) 0) [Ce.bar] from (sep_emp (PROP := sProp 𝕄)).2)
      iexact HB
    · iapply ((holds_perm _ cel_perm.symm).trans (Entails.of_eq h)); iexact HO
  · iintro H
    ihave H := (holds_perm (fun x => (semVal (gc c x) 0 : sProp 𝕄)) allC_bar) $$ H
    ihave H := (holds_append _ _ _).1 $$ H
    icases H with ⟨HB, HO⟩
    isplitl [HB]
    · iapply (show holds (fun x => (semVal (gc c x) 0 : sProp 𝕄)) [Ce.bar] ⊢ semVal (gc c .bar) 0 from (sep_emp (PROP := sProp 𝕄)).1)
      iexact HB
    · iapply ((Entails.of_eq h.symm).trans (holds_perm _ cel_perm)); iexact HO

/-! ## The tokens -/

/-- A right to pay: a signal, a source read, a landing. -/
abbrev Tk : Type := Fin 5 ⊕ (Sd ⊕ Sd)

def allT : List Tk := (List.finRange 5).map Sum.inl ++ (allS.map (fun s => Sum.inr (Sum.inl s)) ++ allS.map (fun s => Sum.inr (Sum.inr s)))

theorem nodup_allT : allT.Nodup := by decide +kernel

theorem mem_allT (k : Tk) : k ∈ allT := by
  unfold allT
  rcases k with j | s | s
  · exact List.mem_append_left _ (List.mem_map_of_mem (List.mem_finRange j))
  · exact List.mem_append_right _ (List.mem_append_left _ (List.mem_map_of_mem (mem_allS s)))
  · exact List.mem_append_right _ (List.mem_append_right _ (List.mem_map_of_mem (mem_allS s)))

/-- The token of a right of a device. A copy the row does not start has tokens that nobody asks for. -/
def tokOf (ck : Dev nD × Tk) : GSem nD τ sig × ℕ × Fin 5 :=
  match ck.2 with
  | .inl j => (gc (sigDev j ck.1) .bar, 0, j)
  | .inr (.inl s) => (gc ck.1 (.S s), 0, 0)
  | .inr (.inr s) => if active (row ck.1) s then (gc (tgt s ck.1) (.R s.rc), 0, 0) else (gc ck.1 (.S s), 1, 0)

theorem sender (c : Dev nD) : ∀ s : Sd, active (row c) s = true → from' s.rc (tgt s c) = c ∧ by' (row c) s.rc = s := by
  have h : ∀ s ∈ allS, active (row c) s = true → from' s.rc (tgt s c) = c ∧ by' (row c) s.rc = s := by
    revert c; decide +kernel
  exact fun s => h s (mem_allS s)

theorem tok_split {c d : Dev nD} {x y : Ce} {r r' : ℕ} {e e' : Fin 5} (h : ((gc c x, r, e) : GSem nD τ sig × ℕ × Fin 5) = (gc d y, r', e')) :
    c = d ∧ x = y ∧ r = r' ∧ e = e' :=
  ⟨(gc_inj (congrArg Prod.fst h)).1, (gc_inj (congrArg Prod.fst h)).2, congrArg (fun p => p.2.1) h, congrArg (fun p => p.2.2) h⟩

theorem tokOf_injective : Function.Injective tokOf := by
  rintro ⟨c, k⟩ ⟨c', k'⟩ h
  unfold tokOf at h
  rcases k with j | s | s <;> rcases k' with j' | s' | s'
  · obtain ⟨h1, -, -, rfl⟩ := tok_split h
    have : c = c' := by rw [← giver_sigDev j c, h1, giver_sigDev]
    subst this; rfl
  · exact absurd (tok_split h).2.1 (by simp)
  · dsimp only at h; split at h <;> exact absurd (tok_split h).2.1 (by simp)
  · exact absurd (tok_split h).2.1 (by simp)
  · obtain ⟨rfl, h2, -, -⟩ := tok_split h
    cases h2; rfl
  · dsimp only at h; split at h
    · exact absurd (tok_split h).2.1 (by simp)
    · exact absurd (tok_split h).2.2.1 (by simp)
  · dsimp only at h; split at h <;> exact absurd (tok_split h).2.1 (by simp)
  · dsimp only at h; split at h
    · exact absurd (tok_split h).2.1 (by simp)
    · exact absurd (tok_split h).2.2.1 (by simp)
  · dsimp only at h
    split at h <;> rename_i ha <;> split at h <;> rename_i hb
    · obtain ⟨h1, h2, -, -⟩ := tok_split h
      have e : s.rc = s'.rc := Ce.R.inj h2
      have hc : c = c' := by rw [← (sender c s ha).1, ← (sender c' s' hb).1, h1, e]
      subst hc
      have hs : s = s' := by rw [← (sender c s ha).2, ← (sender c s' hb).2, e]
      subst hs; rfl
    · exact absurd (tok_split h).2.1 (by simp)
    · exact absurd (tok_split h).2.1 (by simp)
    · obtain ⟨rfl, h2, -, -⟩ := tok_split h
      cases h2; rfl

def ringCells : Finset (GSem nD τ sig) :=
  Finset.univ.map ⟨fun cx : Dev nD × Ce => gc cx.1 cx.2, fun a b h => Prod.ext (gc_inj h).1 (gc_inj h).2⟩
def ringToks : Finset (GSem nD τ sig × ℕ × Fin 5) := Finset.univ.map ⟨tokOf, tokOf_injective⟩

def u₀ : UU :=
  (initOf (Pipeline.cells cfgs cellOf_inj) (Pipeline.launchToks cfgs cellOf_inj), initOf ringCells ringToks)

/-- A device's rights. -/
def toks (c : Dev nD) : sProp 𝕄 :=
  bigSep Finset.univ fun k : Tk => dutyTok ER (tokOf (c, k)).1 (tokOf (c, k)).2.1 (tokOf (c, k)).2.2

theorem holds_filter {α : Type} (P : α → sProp 𝕄) (p : α → Bool) (l : List α) : holds P l ⊢ holds P (l.filter p) := by
  induction l with
  | nil => exact BI.Entails.refl _
  | cons a l ih =>
    by_cases h : p a = true
    · rw [List.filter_cons_of_pos h]
      exact sep_mono_right ih
    · rw [List.filter_cons_of_neg h]
      show iprop(P a ∗ holds P l) ⊢ _
      iintro ⟨-, H⟩
      iapply ih
      iexact H

theorem toks_dealt (c : Dev nD) :
    toks c ⊢ iprop(holds (fun j => dutyTok ER (gc (sigDev j c) .bar) 0 j) (List.finRange 5)
      ∗ holds (fun s => iprop(dutyTok ER (gc c (.S s)) 0 0 ∗ dutyTok ER (gc (tgt s c) (.R s.rc)) 0 0)) (allS.filter fun s => active (row c) s) : sProp 𝕄) := by
  unfold toks
  rw [bigSep_univ_holds _ allT nodup_allT mem_allT]
  unfold allT
  iintro H
  ihave H := (holds_append _ _ _).1 $$ H
  icases H with ⟨H1, H⟩
  ihave H := (holds_append _ _ _).1 $$ H
  icases H with ⟨H2, H3⟩
  isplitl [H1]
  · iapply (Entails.of_eq (holds_map _ _ _)); iexact H1
  · iapply (holds_unsep (fun s => (dutyTok ER (gc c (.S s)) 0 0 : sProp 𝕄)) (fun s => dutyTok ER (gc (tgt s c) (.R s.rc)) 0 0) (allS.filter fun s => active (row c) s))
    isplitl [H2]
    · iapply ((Entails.of_eq (holds_map _ _ _)).trans (holds_filter _ _ _)); iexact H2
    · have e : holds (fun s => (dutyTok ER (tokOf (c, .inr (.inr s))).1 (tokOf (c, .inr (.inr s))).2.1 (tokOf (c, .inr (.inr s))).2.2 : sProp 𝕄))
            (allS.filter fun s => active (row c) s)
          = holds (fun s => dutyTok ER (gc (tgt s c) (.R s.rc)) 0 0) (allS.filter fun s => active (row c) s) :=
        holds_congr fun s hs => by
          have ha : active (row c) s = true := (List.mem_filter.1 hs).2
          have e : tokOf (c, .inr (.inr s)) = (gc (tgt s c) (.R s.rc), 0, 0) := by
            unfold tokOf; exact if_pos ha
          rw [e]
      iapply (((Entails.of_eq (holds_map _ _ _)).trans (holds_filter _ (fun s => active (row c) s) _)).trans (Entails.of_eq e))
      iexact H3

/-! ## The credit -/

/-- The device a debt is owed to. -/
def dev (d : Dev nD) : Dt → Dev nD
  | .bar j => sigDev j d
  | .snd s => tgt s d

theorem dcell_eq (d : Dev nD) (t : Dt) : dcell d t = gc (dev d t) t.ce := by cases t <;> rfl

/-- Whether a debt is owed to a semaphore. -/
def hits (d c : Dev nD) (x : Ce) (t : Dt) : Bool := decide (dev d t = c) && decide (t.ce = x)

theorem owe_count (d : Dev nD) (l : List Dt) (c : Dev nD) (x : Ce) :
    owe d l (gc c x) () = l.countP (hits d c x) * amt x := by
  induction l with
  | nil => simp [owe]
  | cons t l ih =>
    show (owe d l + tallyAt (dcell d t) () (amt t.ce)) (gc c x) () = _
    rw [Pi.add_apply, Finsupp.add_apply, ih, tallyAt_apply, dcell_eq, List.countP_cons, Nat.add_mul]
    congr 1
    by_cases h : dev d t = c ∧ t.ce = x
    · obtain ⟨rfl, rfl⟩ := h
      rw [if_pos ⟨rfl, rfl⟩, if_pos (by simp [hits]), Nat.one_mul]
    · rw [if_neg fun h' => h ⟨(gc_inj h'.1).1.symm, (gc_inj h'.1).2.symm⟩, if_neg (by simpa [hits] using h), Nat.zero_mul]

/-- What a device in row `z` owes, in order of kind. -/
def debtsOf (z : ℕ) : List Dt := (List.finRange 5).map .bar ++ (allS.filter fun s => active z s).map .snd

theorem owed_count (d c : Dev nD) (x : Ce) : O₀ d (gc c x) () = (debtsOf (row d)).countP (hits d c x) * amt x := by
  unfold O₀
  rw [owe_count, (show (debts (shape (row d))).Perm (debtsOf (row d)) from debts_shape (rowF d)).countP_eq]

/-- The five units of a barrier, the one copy of a landing place. -/
def due : Ce → ℕ
  | .bar => 5
  | _ => 1

theorem count_all : ∀ x ∈ Ce.bar :: allR.map Ce.R, ∀ c : Dev nD,
    ((List.finRange 16).map fun d : Dev nD => (debtsOf (row d)).countP (hits d c x)).sum = due x := by
  decide +kernel

theorem launch_gc (c : Dev nD) (x : Ce) (hx : x ∈ Ce.bar :: allR.map Ce.R) :
    tallyOn (gc c x) (launchCredit (Pipeline.owing O₀) 0 (gc c x)) = (tallyAt (gc c x) () (due x * amt x) : CellTallies nD τ sig Unit) := by
  unfold tallyAt; refine congrArg _ (Finsupp.ext fun u => ?_); cases u
  rw [Pipeline.launchCredit_owing, Finsupp.single_eq_same, Finset.sum_congr rfl fun d _ => owed_count d c x, ← Finset.sum_mul,
    ← count_all x hx c]
  exact congrArg (· * amt x) (Fin.sum_univ_def fun d : Fin 16 => (debtsOf (row d)).countP (hits d c x))

theorem creds (c : Dev nD) :
    (Pipeline.launchCred O₀ c : sProp 𝕄)
      ⊢ iprop(cred (tallyAt (gc c .bar) () 5) ∗ holds (fun r => cred (tallyAt (gc c (.R r)) () (amt (.R r)))) allR) := by
  have hnd : ((Ce.bar :: allR.map Ce.R).map cel).Nodup := List.Nodup.map cel_inj (by decide +kernel)
  unfold Pipeline.launchCred
  refine (bigSep_subset (Finset.subset_univ ((Ce.bar :: allR.map Ce.R).map cel).toFinset)).trans ?_
  rw [bigSep_holds _ _ hnd, holds_map, holds_congr fun x hx => congrArg cred (launch_gc c x hx)]
  show iprop(cred (tallyAt (gc c .bar) () (5 * 1)) ∗ holds (fun x => cred (tallyAt (gc c x) () (due x * amt x))) (allR.map Ce.R)) ⊢ _
  rw [holds_map, Nat.mul_one]
  exact sep_mono_right (Entails.of_eq (holds_congr fun r _ => by
    show cred (tallyAt (gc c (.R r)) () (1 * amt (.R r))) = _; rw [Nat.one_mul]))

end Cert.Run
-- ==== Proof.Launch.lean ====
/-
# The launch

Every device's semaphores become cells of the schedule at once, the rights to pay and the credit are dealt out,
and the sixteen bodies run: every fair execution ends, with each result array at the products and every
semaphore at zero.
-/
module

public import proofs.«01_k».proof.Proof.Deal
public import Idealize.ShloMosaic.Lib.Pipeline.CollectiveSegs

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- The positions of a device's cells. -/
def ats (c : Dev nD) : sProp 𝕄 := bigSep Finset.univ fun x : Ce => atPos ER (gc c x) 0 ∅ 0

/-- What the launch element deals a device. -/
def G (c : Dev nD) : sProp 𝕄 :=
  iprop((bigSep Finset.univ fun x : Ce => roundState ER (Rd (xstg m ρ)) (gc c x) 0)
    ∗ (bigSep Finset.univ fun x : Ce => reached ER (gc c x) 0) ∗ ats c ∗ toks c)

/-- What the global step makes of it. -/
def G' (c : Dev nD) : sProp 𝕄 := iprop(∃ K, records (xstg m ρ) K ∗ ats c ∗ toks c)

theorem fund_ring : BI.own (ER (initOf ringCells ringToks)) ⊢ (|==> bigSep Finset.univ (G m ρ) : sProp 𝕄) := by
  have hX (Φ : GSem nD τ sig → sProp 𝕄) :
      bigSep ringCells Φ = bigSep Finset.univ fun c : Dev nD => bigSep Finset.univ fun x : Ce => Φ (gc c x) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd (xstg m ρ)) ringCells ringToks) $$ HX with ⟨Hst, Hr, Hat, Htok⟩
  imodintro
  ihave Hst := (Entails.of_eq (hX fun g => roundState ER (Rd (xstg m ρ)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G ats; simp only [bigSep_sep']
  isplitl [Hst]; · iexact Hst
  isplitl [Hr]; · iexact Hr
  isplitl [Hat]; · iexact Hat
  iexact Htok

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : Ce => iprop(∃ κ : ℕ, cellInv ER (Rd (xstg m ρ)) κ (gc c x)))
          ∗ (bigSep Finset.univ fun x : Ce => reached ER (gc c x) 0) ∗ ats c ∗ toks c) := by
  unfold G
  iintro ⟨Hos, Hus, Hst, Hr, Hat, Htok⟩
  ihave Hv := (((sems_iff (F := F) c).1).trans (Entails.of_eq (bigSep_univ_holds (fun x : Ce => (semVal (gc c x) 0 : sProp 𝕄)) allC nodup_allC mem_allC).symm)) $$ [Hos Hus]
  · isplitl [Hus] <;> iassumption
  imod (show iprop((bigSep Finset.univ fun x : Ce => semVal (gc c x) 0) ∗ bigSep Finset.univ fun x : Ce => roundState ER (Rd (xstg m ρ)) (gc c x) 0)
      ⊢ (|={Set.univ}=> bigSep Finset.univ fun x : Ce => iprop(∃ κ : ℕ, cellInv ER (Rd (xstg m ρ)) κ (gc c x)) : sProp 𝕄) from by
        rw [← bigSep_sep']
        exact (bigSep_mono fun x _ => (Rounds.body_intro ER (Rd (xstg m ρ)) (gc c x)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

theorem deal_all {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun x : Ce => iprop(∃ κ : ℕ, cellInv ER (Rd (xstg m ρ)) κ (gc c x)))
          ∗ (bigSep Finset.univ fun x : Ce => reached ER (gc c x) 0) ∗ ats c ∗ toks c) : sProp 𝕄)
      ⊢ bigSep Finset.univ (G' m ρ) := by
  rw [bigSep_sep', bigSep_sep', ← bigSep_univ_prod (fun cx : Dev nD × Ce => iprop(∃ κ : ℕ, cellInv ER (Rd (xstg m ρ)) κ (gc cx.1 cx.2))),
    ← bigSep_univ_prod (fun cx : Dev nD × Ce => (reached ER (gc cx.1 cx.2) 0 : sProp 𝕄))]
  iintro ⟨HI, HR, Hat⟩
  ihave HK := (BI.bigSep_exists_pi Finset.univ (fun (cx : Dev nD × Ce) (κ : ℕ) => (cellInv ER (Rd (xstg m ρ)) κ (gc cx.1 cx.2) : sProp 𝕄))) $$ HI
  icases HK with ⟨%K, HI⟩
  ihave HR := (show iprop((bigSep Finset.univ fun cx : Dev nD × Ce => cellInv ER (Rd (xstg m ρ)) (K cx) (gc cx.1 cx.2))
      ∗ bigSep Finset.univ fun cx : Dev nD × Ce => reached ER (gc cx.1 cx.2) 0) ⊢ (records (xstg m ρ) K : sProp 𝕄) from by
        unfold records; rw [bigSep_sep']) $$ [HI HR]
  · isplitl [HI] <;> iassumption
  iapply (deal_all (R := records (xstg m ρ) K) (Φ := fun c => iprop(ats c ∗ toks c)) fun c => show _ ⊢ G' m ρ c from by
    unfold G'; iintro ⟨HR, H⟩; iexists K; isplitl [HR] <;> iassumption)
  isplitl [HR]; · iexact HR
  iexact Hat

/-- Every device's semaphores made cells at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The two ends of the region -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(begun m ρ c ∗ emp) := by
  unfold G'
  iintro ⟨-, Hlev, Hcr, -, ⟨%K, HR, Hat, Htok⟩⟩
  ihave Hc := (creds (F := F) c) $$ Hcr
  ihave Htok := (toks_dealt (F := F) c) $$ Htok
  ihave Hat := (show ats c ⊢ (holds (fun x => atPos ER (gc c x) 0 ∅ 0) allC : sProp 𝕄) from
    Entails.of_eq (bigSep_univ_holds _ allC nodup_allC mem_allC)) $$ Hat
  imodintro
  unfold begun dealt
  isplitl
  · iexists K
    isplitl [HR Hlev]
    · isplitl [HR] <;> iassumption
    isplitl [Hat]; · iexact Hat
    isplitl [Hc]; · iexact Hc
    iexact Htok
  · iempintro

theorem phi0_intro (c : Dev nD) :
    iprop(begun m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hz, Hr⟩
  ihave Hz := (sems_iff (F := F) c).2 $$ Hz
  icases Hz with ⟨Hu, Ho⟩
  isplitl [Hu]; · iexact Hu
  isplitl [Ho]; · iexact Ho
  iexact Hr

theorem share_eq (c : Dev nD) (w : Fin cfg0.W) : (dats m ρ 0 c).share w = fullShare := by unfold Dat.share; split <;> rfl

/-! ## The waits on the staging semaphores -/

theorem lv_other (c : Dev nD) (sm : SemLoc sig) (h : ∀ x ∈ allC, cel x ≠ sm) : lv ((c : Thread nD τ), sm) () = 0 := by
  have e : ceOf sm = none := dif_neg fun ⟨x, hx⟩ => h x (mem_allC x) hx
  show (match ceOf sm with | some x => lvl x | none => 0) = 0
  rw [e]

theorem debts_above (z : Fin 4) : ∀ d ∈ debts (shape z.val), 0 < lvl d.ce := by
  revert z; decide +kernel

theorem stage_waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_lev c _ 0 (lv_other c _ (by fin_cases w <;> fin_cases s <;> decide +kernel)) (debts (shape (row c))) (debts_above (rowF c))
    · exact mayWait_lev c _ 0 (lv_other c _ (by fin_cases w <;> fin_cases s <;> decide +kernel)) [] (fun d hd => absurd hd List.not_mem_nil)

/-! ## The run -/

/-- What window `w`'s array of device `c` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, every fair execution of the sixteen devices ends, each device's
    arrays at `finalA` and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := stage_waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := begun m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block and the weights are unchanged. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.Run
-- ==== Proof.Out.lean ====
/-
# The arrays after the run

Each window is its whole array, brought in once and written back once: the staged block and weights are the
arguments, and the result array ends holding the products.
-/
module

public import proofs.«01_k».proof.Proof.Launch
public import Idealize.ShloMosaic.Lib.Pipeline.Value

@[expose] public section

noncomputable section

namespace Cert.Run

open Cert.KernelIdeal Cert.KernelIdeal.Gen
open Idealize.ShloMosaic Idealize.ShloMosaic.TcCoe
open Idealize.SL Idealize.SL.RA Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

theorem off_x : (fun a => win0_0.index t₀ a * main_arg0.ty.shape.size a) = fun _ => 0 := funext fun a => Nat.zero_mul _
theorem off_w : (fun a => win0_1.index t₀ a * main_arg1.ty.shape.size a) = fun _ => 0 := funext fun a => Nat.zero_mul _
theorem off_o : (fun a => win0_2.index t₀ a * main_v1.ty.shape.size a) = fun _ => 0 := funext fun a => Nat.zero_mul _

theorem xstg_eq (c : Dev nD) : xstg m ρ c = m ((c : Thread nD τ).loc main_arg0) :=
  Memref.read_access_unit_zero (Elt F) main_arg0 off_x (fun a => by rw [congrFun off_x a]; simp) (m ((c : Thread nD τ).loc main_arg0))

theorem wstg_eq (c : Dev nD) : wstg m ρ c = m ((c : Thread nD τ).loc main_arg1) :=
  Memref.read_access_unit_zero (Elt F) main_arg1 off_w (fun a => by rw [congrFun off_w a]; simp) (m ((c : Thread nD τ).loc main_arg1))

theorem read_out (c : Dev nD) (f : Buf (Elt F) ((c : Thread nD τ).loc main_v1)) : (win0_2.blk t₀).view.read (Elt F) f = f :=
  Memref.read_access_unit_zero (Elt F) main_v1 off_o (fun a => by rw [congrFun off_o a]; simp) f

theorem flush_2 : (cfg0.win (2 : Fin 3)).flush t₀ = true := by decide

/-- The result array ends holding the products. -/
theorem finalA_out (c : Dev nD) : finalA m ρ c (2 : Fin 3) = ostg m ρ c := by
  have hw : ((cfg0.win (2 : Fin 3)).blk t₀).view.read (Elt F) ((dats m ρ 0 c).arrAt (2 : Fin 3) cfg0.N)
      = (dats m ρ 0 c).flushed (2 : Fin 3) t₀ := by
    rw [show cfg0.N = t₀.val + 1 from rfl, (dats m ρ 0 c).arrAt_succ (2 : Fin 3) t₀, if_pos flush_2]
    exact View.read_write_univ _ _
  exact (read_out c _).symm.trans (hw.trans (funext fun _ => rfl))

/-- The run, read at the arrays: the result at the products of the devices' blocks and the device's weights, the
    arguments unchanged, every semaphore at zero. -/
theorem run_read : θ_run defs (onTc (τ := τ) (main (F := F))) ⟨m, fun _ => 0, ρ⟩ fun r =>
    (∀ c : Dev nD, r.2.mem ((c : Thread nD τ).loc main_v1)
        = outAt (fun d => m ((d : Thread nD τ).loc main_arg0)) (k0_pay7 (m ((c : Thread nD τ).loc main_arg1))) c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0 :=
  (θ_run defs _ _).mono (fun r h => ⟨fun c =>
      ⟨(h.1 c (2 : Fin 3)).trans ((finalA_out m ρ c).trans (by
          unfold ostg; rw [wstg_eq, show xstg m ρ = fun d : Dev nD => m ((d : Thread nD τ).loc main_arg0) from funext (xstg_eq m ρ)])),
        (h.1 c (0 : Fin 3)).trans (finalA_x m ρ c), (h.1 c (1 : Fin 3)).trans (finalA_w m ρ c)⟩, h.2⟩)
    (run_main m ρ)

end Cert.Run
-- ==== Proof.Product.lean ====
/-
# The products, read at an index

At exact arithmetic an entry of the result is a row of the whole left matrix times a column of the device's
weights, cut off below at zero, whichever of the two products computed it.
-/
module

public import proofs.«01_k».proof.Proof.Puts
public import Idealize.ShloMosaic.Lib.Pointwise
public import Idealize.ShloMosaic.Lib.Layout
public import proofs.«01_k».proof.ReferenceIdeal
public import proofs.«01_k».proof.Proof.Gen.ReferenceIdeal

@[expose] public section

set_option maxRecDepth 16384

noncomputable section

namespace Cert.Run

open Cert.KernelIdeal Cert.KernelIdeal.Gen
open Idealize.ShloMosaic Idealize.ShloMosaic.TcCoe

/-- A product of a whole block. -/
theorem whole_apply (w : FVec Ideal S2048x128 .bf16) (x : S128x2048.Idx → Elt Ideal .bf16) (a : Fin 128) (b : Fin 128) :
    (k0_pay1 (k0_pay7 w) (lift x) (ix2 (n0 := 128) (n1 := 128) a b) : EReal)
      = max (∑ k : Fin 2048, (x (ix2 (n0 := 128) (n1 := 2048) a k) : EReal) * w (ix2 (n0 := 2048) (n1 := 128) k b)) 0 := by
  pointwise [k0_pay1, k0_pay7, lift]

/-- A product of half a block. -/
theorem half_apply (w : FVec Ideal S2048x128 .bf16) (x : S128x2048.Idx → Elt Ideal .bf16) (h : Fin 2) (a : Fin 64) (b : Fin 128) :
    (k0_pay18 (k0_pay7 w) (half x h) (ix2 (n0 := 64) (n1 := 128) a b) : EReal)
      = max (∑ k : Fin 2048, (x (ix2 (n0 := 128) (n1 := 2048) ⟨64 * h.val + a.val, half_lt h a⟩ k) : EReal) * w (ix2 (n0 := 2048) (n1 := 128) k b)) 0 := by
  pointwise [k0_pay18, k0_pay7, half]

/-- The reference's result. -/
def refOut (x w : FVec Ideal Cert.ReferenceIdeal.S2048x2048 .bf16) : FVec Ideal Cert.ReferenceIdeal.S2048x2048 .f32 :=
  maximumf (extf .f32 (truncf .bf16 (Host.dotGeneral Cert.ReferenceIdeal.dot_S2048x2048_S2048x2048_S2048x2048_1_0_0_1_n_n none x w)
    Cert.ReferenceIdeal.Gen.bitsLt_bf16_f32) Cert.ReferenceIdeal.Gen.bitsLt_bf16_f32)
    (broadcastInDim Cert.ReferenceIdeal.S2048x2048 ![] Cert.ReferenceIdeal.Gen.bcast_S_S2048x2048 (constant Cert.ReferenceIdeal.S_ .f32 0x00000000#32))

theorem ref_apply (x w : FVec Ideal Cert.ReferenceIdeal.S2048x2048 .bf16) (a b : Fin 2048) :
    (refOut x w (ix2 (n0 := 2048) (n1 := 2048) a b) : EReal)
      = max (∑ k : Fin 2048, (x (ix2 (n0 := 2048) (n1 := 2048) a k) : EReal) * w (ix2 (n0 := 2048) (n1 := 2048) k b)) 0 := by
  pointwise [refOut]

/-- A device's block of the rows, at an index. -/
theorem rows_apply (x : FVec Ideal Cert.ReferenceIdeal.S2048x2048 .bf16) (d : Dev nD) (a : Fin 128) (k : Fin 2048) :
    Layout.block ⟨2, ![128, 2048]⟩ ⟨2, ![2048, 2048]⟩ 0 16 d x (by decide) (ix2 (n0 := 128) (n1 := 2048) a k)
      = x (ix2 (n0 := 2048) (n1 := 2048) ⟨128 * d.val + a.val, by have h : d.val < 16 := d.isLt; have := a.isLt; omega⟩ k) :=
  congrArg x (funext fun b => Fin.ext (by
    match b with
    | ⟨0, _⟩ => show d.val * 128 + a.val = 128 * d.val + a.val; omega
    | ⟨1, _⟩ => rfl))

/-- A device's block of the columns, at an index. -/
theorem cols_apply {φ : FTy} (w : FVec Ideal Cert.ReferenceIdeal.S2048x2048 φ) (c : Dev nD) (k : Fin 2048) (b : Fin 128) :
    Layout.block ⟨2, ![2048, 128]⟩ ⟨2, ![2048, 2048]⟩ 1 16 c w (by decide) (ix2 (n0 := 2048) (n1 := 128) k b)
      = w (ix2 (n0 := 2048) (n1 := 2048) k ⟨128 * c.val + b.val, by have h : c.val < 16 := c.isLt; have := b.isLt; omega⟩) :=
  congrArg w (funext fun a => Fin.ext (by
    match a with
    | ⟨0, _⟩ => rfl
    | ⟨1, _⟩ => show c.val * 128 + b.val = 128 * c.val + b.val; omega))

/-- Every device's result is its block of the columns of the reference's. -/
theorem out_block (x w : FVec Ideal Cert.ReferenceIdeal.S2048x2048 .bf16) (c : Dev nD) :
    outAt (F := Ideal) (fun d => Layout.block ⟨2, ![128, 2048]⟩ ⟨2, ![2048, 2048]⟩ 0 16 d x (by decide))
        (k0_pay7 (F := Ideal) (Layout.block ⟨2, ![2048, 128]⟩ ⟨2, ![2048, 2048]⟩ 1 16 c w (by decide))) c
      = Layout.block ⟨2, ![2048, 128]⟩ ⟨2, ![2048, 2048]⟩ 1 16 c (refOut x w) (by decide) := by
  funext i
  obtain ⟨a, b, rfl⟩ : ∃ (a : Fin 2048) (b : Fin 128), i = ix2 a b := ⟨i 0, i 1, eq_ix2 i⟩
  rw [cols_apply, ref_apply]
  unfold outAt
  split
  · refine (half_apply _ _ _ _ _).trans ?_
    refine congrArg (max · 0) (Finset.sum_congr rfl fun k _ => ?_)
    refine congrArg₂ (fun p q : EReal => p * q) ((rows_apply x _ _ k).trans (congrArg (fun r => x (ix2 (n0 := 2048) (n1 := 2048) r k)) (Fin.ext ?_)))
      (cols_apply w c k b)
    show 128 * (a.val / 128 % 16) + (64 * (a.val / 64 % 2) + a.val % 64) = a.val
    have := a.isLt
    omega
  · refine (whole_apply _ _ _ _).trans ?_
    refine congrArg (max · 0) (Finset.sum_congr rfl fun k _ => ?_)
    refine congrArg₂ (fun p q : EReal => p * q) ((rows_apply x _ _ k).trans (congrArg (fun r => x (ix2 (n0 := 2048) (n1 := 2048) r k)) (Fin.ext ?_)))
      (cols_apply w c k b)
    show 128 * (a.val / 128 % 16) + a.val % 128 = a.val
    have := a.isLt
    omega

end Cert.Run
-- ==== Proof.lean ====
/-
# The certificate

The run of the sixteen devices is proved once, for any float values (Proof/Launch.lean, Proof/Out.lean). Both frames
and the value claim read it; the value claim joins it to the reference's own run by Proof/Product.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Out
public import proofs.«01_k».proof.Proof.Product
public import Idealize.ShloMosaic.Adequacy
public import Idealize.ShloMosaic.Init

@[expose] public section

noncomputable section

namespace Cert.Proof

open Idealize.ShloMosaic Idealize.SL.Sem

theorem frame_ideal : Cert.quiescent_KernelIdeal := fun m ρ _ =>
  (θ_run Cert.KernelIdeal.defs _ _).mono (fun _ h => ⟨fun c => (h.1 c).2, h.2⟩) (Cert.Run.run_read (F := Ideal) m ρ)

/-- The printed kernel and its idealization are one text: their bodies are equal, -/
theorem defs₀_eq : Cert.Kernel.defs₀ (F := Bits) = Cert.KernelIdeal.defs₀ (F := Bits) := by
  refine congrArg Defs.onTc (funext fun l => funext fun a => ?_)
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs Cert.KernelIdeal.pcfgs) defs₀_eq

/-- so the one run is the printed kernel's too. -/
theorem frame_kernel : Cert.quiescent_Kernel := fun m ρ _ => by
  rw [defs_eq]
  exact (θ_run Cert.KernelIdeal.defs _ _).mono (fun _ h => ⟨fun c => (h.1 c).2, h.2⟩) (Cert.Run.run_read (F := Bits) m ρ)

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem value : Cert.algebraic_KernelIdeal_ReferenceIdeal := fun m g m' g' _ hm =>
  ⟨Cert.Run.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun r h c => ⟨(h.1 c).1.trans (by
        rw [(hm c).2, show (fun d : Dev Cert.KernelIdeal.nD => m ((d.tc : Thread Cert.KernelIdeal.nD Cert.KernelIdeal.τ).loc Cert.KernelIdeal.main_arg0)) = _ from
          funext fun d => (hm d).1]
        exact Cert.Run.out_block _ _ c), (h.1 c).2⟩) (Cert.Run.run_read (F := Ideal) m g),
    (θ_run Cert.ReferenceIdeal.defs _ _).mono (fun r h => h 0) (Cert.ReferenceIdeal.Value.run (F := Ideal) m' g')⟩

theorem claim : Cert.Claim :=
  ⟨Cert.Kernel.Gen.facts, Cert.KernelIdeal.Gen.facts, Cert.ReferenceIdeal.Gen.facts,
    frame_kernel, frame_ideal, frame_reference, trivial, value⟩

end Cert.Proof

end
